-- ==== Defs.lean ====
def Pre_Kernel [hPre_p_in_range : Cert.Pre_p_in_range.Facts] (m : (ℓ : Loc Cert.Kernel.nD Cert.Kernel.τ Cert.Kernel.sig) → Buf (Elt Bits) ℓ) : Prop :=
  ∀ c : Dev Cert.Kernel.nD,
    (Cert.Pre_p_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_p_in_range : Cert.Pre_p_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_p_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_p_in_range [hPre_p_in_range : Cert.Pre_p_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_p_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_p_in_range : Cert.Pre_p_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_p_in_range : Cert.Pre_p_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_p_in_range [hReferenceIdeal : Cert.ReferenceIdeal.Facts] [hPre_p_in_range : Cert.Pre_p_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_p_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_p_in_range : Cert.Pre_p_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_p_in_range : Cert.Pre_p_in_range.Facts),
    quiescent_Kernel (hKernel := hKernel) (hPre_p_in_range := hPre_p_in_range)
    ∧ quiescent_KernelIdeal (hKernelIdeal := hKernelIdeal) (hPre_p_in_range := hPre_p_in_range)
    ∧ quiescent_ReferenceIdeal (hReferenceIdeal := hReferenceIdeal)
    ∧ quiescent_ReferenceIdeal_pre_p_in_range (hReferenceIdeal := hReferenceIdeal) (hPre_p_in_range := hPre_p_in_range)
    ∧ preserves_Kernel_KernelIdeal
    ∧ algebraic_KernelIdeal_ReferenceIdeal (hKernelIdeal := hKernelIdeal) (hReferenceIdeal := hReferenceIdeal) (hPre_p_in_range := hPre_p_in_range)
-- ==== Pre_p_in_range.lean ====
abbrev S16384x2048 : Shape := ⟨2, ![16384, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S16384x2048 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 2048#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S16384x2048 : Shape := ⟨2, ![16384, 2048]⟩
abbrev S2048 : Shape := ⟨1, ![2048]⟩
abbrev S8x2048 : Shape := ⟨2, ![8, 2048]⟩
abbrev S_ : Shape := ⟨0, ![]⟩
abbrev S16 : Shape := ⟨1, ![16]⟩
abbrev S1x16 : Shape := ⟨2, ![1, 16]⟩

abbrev nBuf : Table → Nat
  | .hbm => 4
  | .local .scVector .vmem => 5
  | _ => 0

abbrev bufTy : (tb : Table) → Fin (nBuf tb) → BufTy
  | .hbm, ⟨0, _⟩ => ⟨S16384x2048, .f32⟩
  | .hbm, ⟨1, _⟩ => ⟨S2048, .i32⟩
  | .hbm, ⟨2, _⟩ => ⟨S16384x2048, .f32⟩
  | .hbm, ⟨3, _⟩ => ⟨S_, .i32⟩
  | .local .scVector .vmem, ⟨0, _⟩ => ⟨S2048, .i32⟩
  | .local .scVector .vmem, ⟨1, _⟩ => ⟨S8x2048, .f32⟩
  | .local .scVector .vmem, ⟨2, _⟩ => ⟨S8x2048, .f32⟩
  | .local .scVector .vmem, ⟨3, _⟩ => ⟨S8x2048, .f32⟩
  | .local .scVector .vmem, ⟨4, _⟩ => ⟨S8x2048, .f32⟩
  | _, _ => ⟨S16384x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]
def k0_off1_at (r : Fin 3) : BitVec 32 :=
  if r.val < 1 then
    0#32
  else
    if r.val < 2 then
      496#32
    else
      504#32
@[reducible] def k0_t1_loop : Scf.Loop 32 :=
  let c0_i32_2 : BitVec 32 := 0#32
  let c32_i32 : BitVec 32 := 32#32
  let v6 : BitVec 32 := Scalar.addi c0_i32_2 c32_i32
  let c1_i32 : BitVec 32 := 1#32
  ⟨c0_i32_2, v6, c1_i32⟩
def k0_cond1 (k0_t1 : Fin k0_t1_loop.trips) : BitVec 1 :=
  let c0_i32_9 : BitVec 32 := 0#32
  let c0_i32_2 : BitVec 32 := 0#32
  let c1_i32 : BitVec 32 := 1#32
  let arg14 : BitVec 32 := Scf.iv c0_i32_2 c1_i32 k0_t1
  let c2_i32_8 : BitVec 32 := 2#32
  let v13 : BitVec 32 := Scalar.muli arg14 c2_i32_8
  let v14 : BitVec 32 := Scalar.addi c0_i32_9 v13
  let c1_i32_10 : BitVec 32 := 1#32
  let v15 : BitVec 32 := Scalar.addi v14 c1_i32_10
  let c64_i32 : BitVec 32 := 64#32
  let v16 : BitVec 1 := Scalar.cmpi .slt v15 c64_i32
  let v17 : BitVec 32 := Scalar.extui v16
  let c0_i32_11 : BitVec 32 := 0#32
  let v18 : BitVec 1 := Scalar.cmpi .ne v17 c0_i32_11
  v18

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_9 : BitVec 32 := 0#32
  let c0_i32_2 : BitVec 32 := 0#32
  let c1_i32 : BitVec 32 := 1#32
  let arg14 : BitVec 32 := Scf.iv c0_i32_2 c1_i32 k0_t1
  let c2_i32_8 : BitVec 32 := 2#32
  let v13 : BitVec 32 := Scalar.muli arg14 c2_i32_8
  let v14 : BitVec 32 := Scalar.addi c0_i32_9 v13
  let c1_i32_40 : BitVec 32 := 1#32
  let v48 : BitVec 32 := Scalar.addi v14 c1_i32_40
  let c8_i32_41 : BitVec 32 := 8#32
  let v49 : BitVec 32 := Scalar.muli v48 c8_i32_41
  let v50 : BitVec 32 := Scalar.addi v2 v49
  let c0_i32_42 : BitVec 32 := 0#32
  ![v50.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_9 : BitVec 32 := 0#32
  let c0_i32_2 : BitVec 32 := 0#32
  let c1_i32 : BitVec 32 := 1#32
  let arg14 : BitVec 32 := Scf.iv c0_i32_2 c1_i32 k0_t1
  let c2_i32_8 : BitVec 32 := 2#32
  let v13 : BitVec 32 := Scalar.muli arg14 c2_i32_8
  let v14 : BitVec 32 := Scalar.addi c0_i32_9 v13
  let c8_i32 : BitVec 32 := 8#32
  let v19 : BitVec 32 := Scalar.muli v14 c8_i32
  let v20 : BitVec 32 := Scalar.addi v2 v19
  let c0_i32_12 : BitVec 32 := 0#32
  ![v20.toNat, 0]
def k0_cond2 (k0_t1 : Fin k0_t1_loop.trips) : BitVec 1 :=
  let c0_i32_9 : BitVec 32 := 0#32
  let c0_i32_2 : BitVec 32 := 0#32
  let c1_i32 : BitVec 32 := 1#32
  let arg14 : BitVec 32 := Scf.iv c0_i32_2 c1_i32 k0_t1
  let c2_i32_8 : BitVec 32 := 2#32
  let v13 : BitVec 32 := Scalar.muli arg14 c2_i32_8
  let v14 : BitVec 32 := Scalar.addi c0_i32_9 v13
  let c2_i32_14 : BitVec 32 := 2#32
  let v23 : BitVec 1 := Scalar.cmpi .sge v14 c2_i32_14
  let v24 : BitVec 32 := Scalar.extui v23
  let c0_i32_15 : BitVec 32 := 0#32
  let v25 : BitVec 1 := Scalar.cmpi .ne v24 c0_i32_15
  v25

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_9 : BitVec 32 := 0#32
  let c0_i32_2 : BitVec 32 := 0#32
  let c1_i32 : BitVec 32 := 1#32
  let arg14 : BitVec 32 := Scf.iv c0_i32_2 c1_i32 k0_t1
  let c2_i32_8 : BitVec 32 := 2#32
  let v13 : BitVec 32 := Scalar.muli arg14 c2_i32_8
  let v14 : BitVec 32 := Scalar.addi c0_i32_9 v13
  let c2_i32_40 : BitVec 32 := 2#32
  let v48 : BitVec 32 := Scalar.subi v14 c2_i32_40
  let c8_i32_41 : BitVec 32 := 8#32
  let v49 : BitVec 32 := Scalar.muli v48 c8_i32_41
  let v50 : BitVec 32 := Scalar.addi v2 v49
  let c0_i32_42 : BitVec 32 := 0#32
  ![v50.toNat, 0]
@[reducible] def k0_t2_loop : Scf.Loop 32 :=
  let c0_i32_17 : BitVec 32 := 0#32
  let c128_i32 : BitVec 32 := 128#32
  let v26 : BitVec 32 := Scalar.addi c0_i32_17 c128_i32
  let c1_i32_18 : BitVec 32 := 1#32
  ⟨c0_i32_17, v26, c1_i32_18⟩
def k0_mult1 (k0_t2 : Fin k0_t2_loop.trips) : BitVec 32 :=
  let c0_i32_17 : BitVec 32 := 0#32
  let c1_i32_18 : BitVec 32 := 1#32
  let arg15 : BitVec 32 := Scf.iv c0_i32_17 c1_i32_18 k0_t2
  let c16_i32 : BitVec 32 := 16#32
  let v48 : BitVec 32 := Scalar.muli arg15 c16_i32
  v48
def k0_off5 (k0_t2 : Fin k0_t2_loop.trips) : Fin 1 → Nat :=
  let c0_i32_17 : BitVec 32 := 0#32
  let c1_i32_18 : BitVec 32 := 1#32
  let arg15 : BitVec 32 := Scf.iv c0_i32_17 c1_i32_18 k0_t2
  let c16_i32 : BitVec 32 := 16#32
  let v48 : BitVec 32 := Scalar.muli arg15 c16_i32
  let v49 : BitVec 32 := v48
  let v50 : Index := Scalar.indexCast v49
  ![v50.toNat]

def k0_chk1 (v51 : IVec S16 32) (v52 : IVec S16 32) : Prop :=
  (∀ a x, ((![v52, v51] : Fin 2 → IVec S16 32) a x).toNat < S8x2048.size a)
theorem k0_idx1_inb : ∀ (v51 : IVec S16 32) (v52 : IVec S16 32) (k0_hw1 : k0_chk1 v51 v52), ∀ a x, ((![v52, v51] : Fin 2 → IVec S16 32) a x).toNat < S8x2048.size a := fun v51 v52 k0_hw1 => k0_hw1
def k0_off6 (k0_t2 : Fin k0_t2_loop.trips) : Fin 2 → Nat :=
  let c0_i32_41 : BitVec 32 := 0#32
  let v54 : Index := Scalar.indexCast c0_i32_41
  let c0_i32_17 : BitVec 32 := 0#32
  let c1_i32_18 : BitVec 32 := 1#32
  let arg15 : BitVec 32 := Scf.iv c0_i32_17 c1_i32_18 k0_t2
  let c16_i32 : BitVec 32 := 16#32
  let v48 : BitVec 32 := Scalar.muli arg15 c16_i32
  let v49 : BitVec 32 := v48
  let v55 : Index := Scalar.indexCast v49
  ![0, v55.toNat]

def k0_chk2 (v51 : IVec S16 32) (v57 : IVec S16 32) : Prop :=
  (∀ a x, ((![v57, v51] : Fin 2 → IVec S16 32) a x).toNat < S8x2048.size a)
theorem k0_idx2_inb : ∀ (v51 : IVec S16 32) (v57 : IVec S16 32) (k0_hw2 : k0_chk2 v51 v57), ∀ a x, ((![v57, v51] : Fin 2 → IVec S16 32) a x).toNat < S8x2048.size a := fun v51 v57 k0_hw2 => k0_hw2
def k0_off7 (k0_t2 : Fin k0_t2_loop.trips) : Fin 2 → Nat :=
  let c1_i32_43 : BitVec 32 := 1#32
  let v59 : Index := Scalar.indexCast c1_i32_43
  let c0_i32_17 : BitVec 32 := 0#32
  let c1_i32_18 : BitVec 32 := 1#32
  let arg15 : BitVec 32 := Scf.iv c0_i32_17 c1_i32_18 k0_t2
  let c16_i32 : BitVec 32 := 16#32
  let v48 : BitVec 32 := Scalar.muli arg15 c16_i32
  let v49 : BitVec 32 := v48
  let v60 : Index := Scalar.indexCast v49
  ![1, v60.toNat]

def k0_chk3 (v51 : IVec S16 32) (v62 : IVec S16 32) : Prop :=
  (∀ a x, ((![v62, v51] : Fin 2 → IVec S16 32) a x).toNat < S8x2048.size a)
theorem k0_idx3_inb : ∀ (v51 : IVec S16 32) (v62 : IVec S16 32) (k0_hw3 : k0_chk3 v51 v62), ∀ a x, ((![v62, v51] : Fin 2 → IVec S16 32) a x).toNat < S8x2048.size a := fun v51 v62 k0_hw3 => k0_hw3
def k0_off8 (k0_t2 : Fin k0_t2_loop.trips) : Fin 2 → Nat :=
  let c2_i32_45 : BitVec 32 := 2#32
  let v64 : Index := Scalar.indexCast c2_i32_45
  let c0_i32_17 : BitVec 32 := 0#32
  let c1_i32_18 : BitVec 32 := 1#32
  let arg15 : BitVec 32 := Scf.iv c0_i32_17 c1_i32_18 k0_t2
  let c16_i32 : BitVec 32 := 16#32
  let v48 : BitVec 32 := Scalar.muli arg15 c16_i32
  let v49 : BitVec 32 := v48
  let v65 : Index := Scalar.indexCast v49
  ![2, v65.toNat]

def k0_chk4 (v51 : IVec S16 32) (v67 : IVec S16 32) : Prop :=
  (∀ a x, ((![v67, v51] : Fin 2 → IVec S16 32) a x).toNat < S8x2048.size a)
theorem k0_idx4_inb : ∀ (v51 : IVec S16 32) (v67 : IVec S16 32) (k0_hw4 : k0_chk4 v51 v67), ∀ a x, ((![v67, v51] : Fin 2 → IVec S16 32) a x).toNat < S8x2048.size a := fun v51 v67 k0_hw4 => k0_hw4
def k0_off9 (k0_t2 : Fin k0_t2_loop.trips) : Fin 2 → Nat :=
  let c3_i32_46 : BitVec 32 := 3#32
  let v69 : Index := Scalar.indexCast c3_i32_46
  let c0_i32_17 : BitVec 32 := 0#32
  let c1_i32_18 : BitVec 32 := 1#32
  let arg15 : BitVec 32 := Scf.iv c0_i32_17 c1_i32_18 k0_t2
  let c16_i32 : BitVec 32 := 16#32
  let v48 : BitVec 32 := Scalar.muli arg15 c16_i32
  let v49 : BitVec 32 := v48
  let v70 : Index := Scalar.indexCast v49
  ![3, v70.toNat]

def k0_chk5 (v51 : IVec S16 32) (v72 : IVec S16 32) : Prop :=
  (∀ a x, ((![v72, v51] : Fin 2 → IVec S16 32) a x).toNat < S8x2048.size a)
theorem k0_idx5_inb : ∀ (v51 : IVec S16 32) (v72 : IVec S16 32) (k0_hw5 : k0_chk5 v51 v72), ∀ a x, ((![v72, v51] : Fin 2 → IVec S16 32) a x).toNat < S8x2048.size a := fun v51 v72 k0_hw5 => k0_hw5
def k0_off10 (k0_t2 : Fin k0_t2_loop.trips) : Fin 2 → Nat :=
  let c4_i32_47 : BitVec 32 := 4#32
  let v74 : Index := Scalar.indexCast c4_i32_47
  let c0_i32_17 : BitVec 32 := 0#32
  let c1_i32_18 : BitVec 32 := 1#32
  let arg15 : BitVec 32 := Scf.iv c0_i32_17 c1_i32_18 k0_t2
  let c16_i32 : BitVec 32 := 16#32
  let v48 : BitVec 32 := Scalar.muli arg15 c16_i32
  let v49 : BitVec 32 := v48
  let v75 : Index := Scalar.indexCast v49
  ![4, v75.toNat]

def k0_chk6 (v51 : IVec S16 32) (v77 : IVec S16 32) : Prop :=
  (∀ a x, ((![v77, v51] : Fin 2 → IVec S16 32) a x).toNat < S8x2048.size a)
theorem k0_idx6_inb : ∀ (v51 : IVec S16 32) (v77 : IVec S16 32) (k0_hw6 : k0_chk6 v51 v77), ∀ a x, ((![v77, v51] : Fin 2 → IVec S16 32) a x).toNat < S8x2048.size a := fun v51 v77 k0_hw6 => k0_hw6
def k0_off11 (k0_t2 : Fin k0_t2_loop.trips) : Fin 2 → Nat :=
  let c5_i32_48 : BitVec 32 := 5#32
  let v79 : Index := Scalar.indexCast c5_i32_48
  let c0_i32_17 : BitVec 32 := 0#32
  let c1_i32_18 : BitVec 32 := 1#32
  let arg15 : BitVec 32 := Scf.iv c0_i32_17 c1_i32_18 k0_t2
  let c16_i32 : BitVec 32 := 16#32
  let v48 : BitVec 32 := Scalar.muli arg15 c16_i32
  let v49 : BitVec 32 := v48
  let v80 : Index := Scalar.indexCast v49
  ![5, v80.toNat]

def k0_chk7 (v51 : IVec S16 32) (v82 : IVec S16 32) : Prop :=
  (∀ a x, ((![v82, v51] : Fin 2 → IVec S16 32) a x).toNat < S8x2048.size a)
theorem k0_idx7_inb : ∀ (v51 : IVec S16 32) (v82 : IVec S16 32) (k0_hw7 : k0_chk7 v51 v82), ∀ a x, ((![v82, v51] : Fin 2 → IVec S16 32) a x).toNat < S8x2048.size a := fun v51 v82 k0_hw7 => k0_hw7
def k0_off12 (k0_t2 : Fin k0_t2_loop.trips) : Fin 2 → Nat :=
  let c6_i32_49 : BitVec 32 := 6#32
  let v84 : Index := Scalar.indexCast c6_i32_49
  let c0_i32_17 : BitVec 32 := 0#32
  let c1_i32_18 : BitVec 32 := 1#32
  let arg15 : BitVec 32 := Scf.iv c0_i32_17 c1_i32_18 k0_t2
  let c16_i32 : BitVec 32 := 16#32
  let v48 : BitVec 32 := Scalar.muli arg15 c16_i32
  let v49 : BitVec 32 := v48
  let v85 : Index := Scalar.indexCast v49
  ![6, v85.toNat]

def k0_chk8 (v51 : IVec S16 32) (v87 : IVec S16 32) : Prop :=
  (∀ a x, ((![v87, v51] : Fin 2 → IVec S16 32) a x).toNat < S8x2048.size a)
theorem k0_idx8_inb : ∀ (v51 : IVec S16 32) (v87 : IVec S16 32) (k0_hw8 : k0_chk8 v51 v87), ∀ a x, ((![v87, v51] : Fin 2 → IVec S16 32) a x).toNat < S8x2048.size a := fun v51 v87 k0_hw8 => k0_hw8
def k0_off13 (k0_t2 : Fin k0_t2_loop.trips) : Fin 2 → Nat :=
  let c7_i32_50 : BitVec 32 := 7#32
  let v89 : Index := Scalar.indexCast c7_i32_50
  let c0_i32_17 : BitVec 32 := 0#32
  let c1_i32_18 : BitVec 32 := 1#32
  let arg15 : BitVec 32 := Scf.iv c0_i32_17 c1_i32_18 k0_t2
  let c16_i32 : BitVec 32 := 16#32
  let v48 : BitVec 32 := Scalar.muli arg15 c16_i32
  let v49 : BitVec 32 := v48
  let v90 : Index := Scalar.indexCast v49
  ![7, v90.toNat]
def k0_cond3 (k0_t1 : Fin k0_t1_loop.trips) : BitVec 1 :=
  let c0_i32_9 : BitVec 32 := 0#32
  let c0_i32_2 : BitVec 32 := 0#32
  let c1_i32 : BitVec 32 := 1#32
  let arg14 : BitVec 32 := Scf.iv c0_i32_2 c1_i32 k0_t1
  let c2_i32_8 : BitVec 32 := 2#32
  let v13 : BitVec 32 := Scalar.muli arg14 c2_i32_8
  let v14 : BitVec 32 := Scalar.addi c0_i32_9 v13
  let c1_i32_23 : BitVec 32 := 1#32
  let v31 : BitVec 32 := Scalar.addi v14 c1_i32_23
  let c1_i32_24 : BitVec 32 := 1#32
  let v32 : BitVec 32 := Scalar.addi v31 c1_i32_24
  let c64_i32_25 : BitVec 32 := 64#32
  let v33 : BitVec 1 := Scalar.cmpi .slt v32 c64_i32_25
  let v34 : BitVec 32 := Scalar.extui v33
  let c0_i32_26 : BitVec 32 := 0#32
  let v35 : BitVec 1 := Scalar.cmpi .ne v34 c0_i32_26
  v35

def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_9 : BitVec 32 := 0#32
  let c0_i32_2 : BitVec 32 := 0#32
  let c1_i32 : BitVec 32 := 1#32
  let arg14 : BitVec 32 := Scf.iv c0_i32_2 c1_i32 k0_t1
  let c2_i32_8 : BitVec 32 := 2#32
  let v13 : BitVec 32 := Scalar.muli arg14 c2_i32_8
  let v14 : BitVec 32 := Scalar.addi c0_i32_9 v13
  let c1_i32_23 : BitVec 32 := 1#32
  let v31 : BitVec 32 := Scalar.addi v14 c1_i32_23
  let c1_i32_40 : BitVec 32 := 1#32
  let v48 : BitVec 32 := Scalar.addi v31 c1_i32_40
  let c8_i32_41 : BitVec 32 := 8#32
  let v49 : BitVec 32 := Scalar.muli v48 c8_i32_41
  let v50 : BitVec 32 := Scalar.addi v2 v49
  let c0_i32_42 : BitVec 32 := 0#32
  ![v50.toNat, 0]
def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_9 : BitVec 32 := 0#32
  let c0_i32_2 : BitVec 32 := 0#32
  let c1_i32 : BitVec 32 := 1#32
  let arg14 : BitVec 32 := Scf.iv c0_i32_2 c1_i32 k0_t1
  let c2_i32_8 : BitVec 32 := 2#32
  let v13 : BitVec 32 := Scalar.muli arg14 c2_i32_8
  let v14 : BitVec 32 := Scalar.addi c0_i32_9 v13
  let c1_i32_23 : BitVec 32 := 1#32
  let v31 : BitVec 32 := Scalar.addi v14 c1_i32_23
  let c8_i32_27 : BitVec 32 := 8#32
  let v36 : BitVec 32 := Scalar.muli v31 c8_i32_27
  let v37 : BitVec 32 := Scalar.addi v2 v36
  let c0_i32_28 : BitVec 32 := 0#32
  ![v37.toNat, 0]
def k0_cond4 (k0_t1 : Fin k0_t1_loop.trips) : BitVec 1 :=
  let c0_i32_9 : BitVec 32 := 0#32
  let c0_i32_2 : BitVec 32 := 0#32
  let c1_i32 : BitVec 32 := 1#32
  let arg14 : BitVec 32 := Scf.iv c0_i32_2 c1_i32 k0_t1
  let c2_i32_8 : BitVec 32 := 2#32
  let v13 : BitVec 32 := Scalar.muli arg14 c2_i32_8
  let v14 : BitVec 32 := Scalar.addi c0_i32_9 v13
  let c1_i32_23 : BitVec 32 := 1#32
  let v31 : BitVec 32 := Scalar.addi v14 c1_i32_23
  let c2_i32_30 : BitVec 32 := 2#32
  let v40 : BitVec 1 := Scalar.cmpi .sge v31 c2_i32_30
  let v41 : BitVec 32 := Scalar.extui v40
  let c0_i32_31 : BitVec 32 := 0#32
  let v42 : BitVec 1 := Scalar.cmpi .ne v41 c0_i32_31
  v42

def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_9 : BitVec 32 := 0#32
  let c0_i32_2 : BitVec 32 := 0#32
  let c1_i32 : BitVec 32 := 1#32
  let arg14 : BitVec 32 := Scf.iv c0_i32_2 c1_i32 k0_t1
  let c2_i32_8 : BitVec 32 := 2#32
  let v13 : BitVec 32 := Scalar.muli arg14 c2_i32_8
  let v14 : BitVec 32 := Scalar.addi c0_i32_9 v13
  let c1_i32_23 : BitVec 32 := 1#32
  let v31 : BitVec 32 := Scalar.addi v14 c1_i32_23
  let c2_i32_40 : BitVec 32 := 2#32
  let v48 : BitVec 32 := Scalar.subi v31 c2_i32_40
  let c8_i32_41 : BitVec 32 := 8#32
  let v49 : BitVec 32 := Scalar.muli v48 c8_i32_41
  let v50 : BitVec 32 := Scalar.addi v2 v49
  let c0_i32_42 : BitVec 32 := 0#32
  ![v50.toNat, 0]
@[reducible] def k0_t3_loop : Scf.Loop 32 :=
  let c0_i32_33 : BitVec 32 := 0#32
  let c128_i32_34 : BitVec 32 := 128#32
  let v43 : BitVec 32 := Scalar.addi c0_i32_33 c128_i32_34
  let c1_i32_35 : BitVec 32 := 1#32
  ⟨c0_i32_33, v43, c1_i32_35⟩
def k0_mult2 (k0_t3 : Fin k0_t3_loop.trips) : BitVec 32 :=
  let c0_i32_33 : BitVec 32 := 0#32
  let c1_i32_35 : BitVec 32 := 1#32
  let arg15 : BitVec 32 := Scf.iv c0_i32_33 c1_i32_35 k0_t3
  let c16_i32 : BitVec 32 := 16#32
  let v48 : BitVec 32 := Scalar.muli arg15 c16_i32
  v48
def k0_off17 (k0_t3 : Fin k0_t3_loop.trips) : Fin 1 → Nat :=
  let c0_i32_33 : BitVec 32 := 0#32
  let c1_i32_35 : BitVec 32 := 1#32
  let arg15 : BitVec 32 := Scf.iv c0_i32_33 c1_i32_35 k0_t3
  let c16_i32 : BitVec 32 := 16#32
  let v48 : BitVec 32 := Scalar.muli arg15 c16_i32
  let v49 : BitVec 32 := v48
  let v50 : Index := Scalar.indexCast v49
  ![v50.toNat]

def k0_chk9 (v51 : IVec S16 32) (v52 : IVec S16 32) : Prop :=
  (∀ a x, ((![v52, v51] : Fin 2 → IVec S16 32) a x).toNat < S8x2048.size a)
theorem k0_idx9_inb : ∀ (v51 : IVec S16 32) (v52 : IVec S16 32) (k0_hw9 : k0_chk9 v51 v52), ∀ a x, ((![v52, v51] : Fin 2 → IVec S16 32) a x).toNat < S8x2048.size a := fun v51 v52 k0_hw9 => k0_hw9
def k0_off18 (k0_t3 : Fin k0_t3_loop.trips) : Fin 2 → Nat :=
  let c0_i32_41 : BitVec 32 := 0#32
  let v54 : Index := Scalar.indexCast c0_i32_41
  let c0_i32_33 : BitVec 32 := 0#32
  let c1_i32_35 : BitVec 32 := 1#32
  let arg15 : BitVec 32 := Scf.iv c0_i32_33 c1_i32_35 k0_t3
  let c16_i32 : BitVec 32 := 16#32
  let v48 : BitVec 32 := Scalar.muli arg15 c16_i32
  let v49 : BitVec 32 := v48
  let v55 : Index := Scalar.indexCast v49
  ![0, v55.toNat]

def k0_chk10 (v51 : IVec S16 32) (v57 : IVec S16 32) : Prop :=
  (∀ a x, ((![v57, v51] : Fin 2 → IVec S16 32) a x).toNat < S8x2048.size a)
theorem k0_idx10_inb : ∀ (v51 : IVec S16 32) (v57 : IVec S16 32) (k0_hw10 : k0_chk10 v51 v57), ∀ a x, ((![v57, v51] : Fin 2 → IVec S16 32) a x).toNat < S8x2048.size a := fun v51 v57 k0_hw10 => k0_hw10
def k0_off19 (k0_t3 : Fin k0_t3_loop.trips) : Fin 2 → Nat :=
  let c1_i32_43 : BitVec 32 := 1#32
  let v59 : Index := Scalar.indexCast c1_i32_43
  let c0_i32_33 : BitVec 32 := 0#32
  let c1_i32_35 : BitVec 32 := 1#32
  let arg15 : BitVec 32 := Scf.iv c0_i32_33 c1_i32_35 k0_t3
  let c16_i32 : BitVec 32 := 16#32
  let v48 : BitVec 32 := Scalar.muli arg15 c16_i32
  let v49 : BitVec 32 := v48
  let v60 : Index := Scalar.indexCast v49
  ![1, v60.toNat]

def k0_chk11 (v51 : IVec S16 32) (v62 : IVec S16 32) : Prop :=
  (∀ a x, ((![v62, v51] : Fin 2 → IVec S16 32) a x).toNat < S8x2048.size a)
theorem k0_idx11_inb : ∀ (v51 : IVec S16 32) (v62 : IVec S16 32) (k0_hw11 : k0_chk11 v51 v62), ∀ a x, ((![v62, v51] : Fin 2 → IVec S16 32) a x).toNat < S8x2048.size a := fun v51 v62 k0_hw11 => k0_hw11
def k0_off20 (k0_t3 : Fin k0_t3_loop.trips) : Fin 2 → Nat :=
  let c2_i32_45 : BitVec 32 := 2#32
  let v64 : Index := Scalar.indexCast c2_i32_45
  let c0_i32_33 : BitVec 32 := 0#32
  let c1_i32_35 : BitVec 32 := 1#32
  let arg15 : BitVec 32 := Scf.iv c0_i32_33 c1_i32_35 k0_t3
  let c16_i32 : BitVec 32 := 16#32
  let v48 : BitVec 32 := Scalar.muli arg15 c16_i32
  let v49 : BitVec 32 := v48
  let v65 : Index := Scalar.indexCast v49
  ![2, v65.toNat]

def k0_chk12 (v51 : IVec S16 32) (v67 : IVec S16 32) : Prop :=
  (∀ a x, ((![v67, v51] : Fin 2 → IVec S16 32) a x).toNat < S8x2048.size a)
theorem k0_idx12_inb : ∀ (v51 : IVec S16 32) (v67 : IVec S16 32) (k0_hw12 : k0_chk12 v51 v67), ∀ a x, ((![v67, v51] : Fin 2 → IVec S16 32) a x).toNat < S8x2048.size a := fun v51 v67 k0_hw12 => k0_hw12
def k0_off21 (k0_t3 : Fin k0_t3_loop.trips) : Fin 2 → Nat :=
  let c3_i32_46 : BitVec 32 := 3#32
  let v69 : Index := Scalar.indexCast c3_i32_46
  let c0_i32_33 : BitVec 32 := 0#32
  let c1_i32_35 : BitVec 32 := 1#32
  let arg15 : BitVec 32 := Scf.iv c0_i32_33 c1_i32_35 k0_t3
  let c16_i32 : BitVec 32 := 16#32
  let v48 : BitVec 32 := Scalar.muli arg15 c16_i32
  let v49 : BitVec 32 := v48
  let v70 : Index := Scalar.indexCast v49
  ![3, v70.toNat]

def k0_chk13 (v51 : IVec S16 32) (v72 : IVec S16 32) : Prop :=
  (∀ a x, ((![v72, v51] : Fin 2 → IVec S16 32) a x).toNat < S8x2048.size a)
theorem k0_idx13_inb : ∀ (v51 : IVec S16 32) (v72 : IVec S16 32) (k0_hw13 : k0_chk13 v51 v72), ∀ a x, ((![v72, v51] : Fin 2 → IVec S16 32) a x).toNat < S8x2048.size a := fun v51 v72 k0_hw13 => k0_hw13
def k0_off22 (k0_t3 : Fin k0_t3_loop.trips) : Fin 2 → Nat :=
  let c4_i32_47 : BitVec 32 := 4#32
  let v74 : Index := Scalar.indexCast c4_i32_47
  let c0_i32_33 : BitVec 32 := 0#32
  let c1_i32_35 : BitVec 32 := 1#32
  let arg15 : BitVec 32 := Scf.iv c0_i32_33 c1_i32_35 k0_t3
  let c16_i32 : BitVec 32 := 16#32
  let v48 : BitVec 32 := Scalar.muli arg15 c16_i32
  let v49 : BitVec 32 := v48
  let v75 : Index := Scalar.indexCast v49
  ![4, v75.toNat]

def k0_chk14 (v51 : IVec S16 32) (v77 : IVec S16 32) : Prop :=
  (∀ a x, ((![v77, v51] : Fin 2 → IVec S16 32) a x).toNat < S8x2048.size a)
theorem k0_idx14_inb : ∀ (v51 : IVec S16 32) (v77 : IVec S16 32) (k0_hw14 : k0_chk14 v51 v77), ∀ a x, ((![v77, v51] : Fin 2 → IVec S16 32) a x).toNat < S8x2048.size a := fun v51 v77 k0_hw14 => k0_hw14
def k0_off23 (k0_t3 : Fin k0_t3_loop.trips) : Fin 2 → Nat :=
  let c5_i32_48 : BitVec 32 := 5#32
  let v79 : Index := Scalar.indexCast c5_i32_48
  let c0_i32_33 : BitVec 32 := 0#32
  let c1_i32_35 : BitVec 32 := 1#32
  let arg15 : BitVec 32 := Scf.iv c0_i32_33 c1_i32_35 k0_t3
  let c16_i32 : BitVec 32 := 16#32
  let v48 : BitVec 32 := Scalar.muli arg15 c16_i32
  let v49 : BitVec 32 := v48
  let v80 : Index := Scalar.indexCast v49
  ![5, v80.toNat]

def k0_chk15 (v51 : IVec S16 32) (v82 : IVec S16 32) : Prop :=
  (∀ a x, ((![v82, v51] : Fin 2 → IVec S16 32) a x).toNat < S8x2048.size a)
theorem k0_idx15_inb : ∀ (v51 : IVec S16 32) (v82 : IVec S16 32) (k0_hw15 : k0_chk15 v51 v82), ∀ a x, ((![v82, v51] : Fin 2 → IVec S16 32) a x).toNat < S8x2048.size a := fun v51 v82 k0_hw15 => k0_hw15
def k0_off24 (k0_t3 : Fin k0_t3_loop.trips) : Fin 2 → Nat :=
  let c6_i32_49 : BitVec 32 := 6#32
  let v84 : Index := Scalar.indexCast c6_i32_49
  let c0_i32_33 : BitVec 32 := 0#32
  let c1_i32_35 : BitVec 32 := 1#32
  let arg15 : BitVec 32 := Scf.iv c0_i32_33 c1_i32_35 k0_t3
  let c16_i32 : BitVec 32 := 16#32
  let v48 : BitVec 32 := Scalar.muli arg15 c16_i32
  let v49 : BitVec 32 := v48
  let v85 : Index := Scalar.indexCast v49
  ![6, v85.toNat]

def k0_chk16 (v51 : IVec S16 32) (v87 : IVec S16 32) : Prop :=
  (∀ a x, ((![v87, v51] : Fin 2 → IVec S16 32) a x).toNat < S8x2048.size a)
theorem k0_idx16_inb : ∀ (v51 : IVec S16 32) (v87 : IVec S16 32) (k0_hw16 : k0_chk16 v51 v87), ∀ a x, ((![v87, v51] : Fin 2 → IVec S16 32) a x).toNat < S8x2048.size a := fun v51 v87 k0_hw16 => k0_hw16
def k0_off25 (k0_t3 : Fin k0_t3_loop.trips) : Fin 2 → Nat :=
  let c7_i32_50 : BitVec 32 := 7#32
  let v89 : Index := Scalar.indexCast c7_i32_50
  let c0_i32_33 : BitVec 32 := 0#32
  let c1_i32_35 : BitVec 32 := 1#32
  let arg15 : BitVec 32 := Scf.iv c0_i32_33 c1_i32_35 k0_t3
  let c16_i32 : BitVec 32 := 16#32
  let v48 : BitVec 32 := Scalar.muli arg15 c16_i32
  let v49 : BitVec 32 := v48
  let v90 : Index := Scalar.indexCast v49
  ![7, v90.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2048 : Shape := ⟨2, ![16384, 2048]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S1x1, .i32⟩
  | .hbm, ⟨15, _⟩ => ⟨S2048x1, .i32⟩
  | .hbm, ⟨16, _⟩ => ⟨S2048x1, .i1⟩
  | .hbm, ⟨17, _⟩ => ⟨S2048x1, .i1⟩
  | .hbm, ⟨18, _⟩ => ⟨S_, .i1⟩
  | .hbm, ⟨19, _⟩ => ⟨S2048, .i1⟩
  | .hbm, ⟨20, _⟩ => ⟨S16384x2048, .f32⟩
  | .hbm, ⟨21, _⟩ => ⟨S16384x2048, .i1⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S_, .i32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_c : Ref sig .tc := ⟨.hbm, 25, rfl⟩

abbrev nD : Nat := 1
abbrev τ : Topo := Topo.v7x

variable {F : FTy → Type} [FloatOps F]
-- ==== Proof.Base.lean ====
/-
  The vocabulary of the proof: the program as the launch theorem sees it, the resource algebra, the
  arrays, and the value each block and each array is to hold.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pointwise.Index
public import Idealize.ShloMosaic.Lib.Tactic
public import Idealize.ShloMosaic.Lib.Transfers
public import proofs.«01_k».proof.Proof.Gen.KernelIdeal
public import proofs.«01_k».proof.Proof.Gen.KernelIdeal.Skeleton

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The program's labels, its launch, its table of bodies and its loop variants, under short names. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's standing facts: its four handshake semaphores are distinct and unscoped, and no
    SparseCore-owned buffer is shared with a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The proof's own state: the launch's handshakes beside the counters of transfers in flight. -/
abbrev UH : Type := URounds (GSem nD τ sig) ℕ
abbrev UU : Type := UH × Counters

local notation "𝕄" => MT nD τ sig (HIx 1) (Elt F) ℕ UU ℕ

/-- The launch's handshakes, the first component of the proof's own state. -/
def EH : Emb UH (MT nD τ sig (HIx 1) (Elt F) ℕ UU ℕ) := embL
/-- The counters of transfers in flight, its second. -/
def EC : UEmb Counters (MT nD τ sig (HIx 1) (Elt F) ℕ UU ℕ) := countersEmb

/-- The handshakes' state lies in the part of the resource that invariants may hold. -/
instance EH_landsIn : (EH : Emb UH 𝕄).LandsIn (upEmb : UEmb _ 𝕄) := by unfold EH; infer_instance

/-! ## The arrays -/

variable (m : (ℓ : Loc nD τ sig) → Buf (Elt F) ℓ)

/-- `x` and `p` (the arguments), `o` (the result) and the constant second result, as locations of device `d`. -/
abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0
abbrev zLoc (d : Dev nD) : Loc nD τ sig := (SparseCore.T d).loc main_c

/-- The buffers as a subcore names them: the arrays whole, its copy of `p`, the two input and the two output buffers. -/
abbrev xV : Memref sig .scVector .hbm S16384x2048 .f32 := Memref.whole main_arg0_scv
abbrev pV : Memref sig .scVector .hbm S2048 .i32 := Memref.whole main_arg1_scv
abbrev oV : Memref sig .scVector .hbm S16384x2048 .f32 := Memref.whole main_v0_scv
abbrev tV : Memref sig .scVector .vmem S2048 .i32 := Memref.whole cc0_scratch0
abbrev in0 : Memref sig .scVector .vmem S8x2048 .f32 := Memref.whole cc0_scratch1
abbrev in1 : Memref sig .scVector .vmem S8x2048 .f32 := Memref.whole cc0_scratch2
abbrev out0 : Memref sig .scVector .vmem S8x2048 .f32 := Memref.whole cc0_scratch3
abbrev out1 : Memref sig .scVector .vmem S8x2048 .f32 := Memref.whole cc0_scratch4

/-! ## The values -/

/-- The column that entry `j` of the permutation names. -/
def col (pc : S2048.Idx → BitVec 32) (j : Fin 2048) : Fin 2048 := ⟨(pc (ix1 j)).toNat % 2048, Nat.mod_lt _ (by decide)⟩

/-- A block of eight rows with its columns taken at the permutation's entries. -/
def gat {α : Type} (X : S8x2048.Idx → α) (pc : S2048.Idx → BitVec 32) : S8x2048.Idx → α :=
  fun y => X (ix2 (n0 := 8) (n1 := 2048) (y 0) (col pc (y 1)))

/-- What the result holds: row `i`, column `j` is `x` at row `i` and the column entry `j` of `p` names. -/
def G (d : Dev nD) : Buf (Elt F) (oLoc d) :=
  fun i => (m (xLoc d) : S16384x2048.Idx → Elt F .f32)
    (ix2 (n0 := 16384) (n1 := 2048) ((i : S16384x2048.Idx) 0) (col (m (pLoc d)) ((i : S16384x2048.Idx) 1)))

/-- Every entry of `p` names a column. -/
def PreOK : Prop := ∀ (d : Dev nD) (j : S2048.Idx), (m (pLoc d) j : BitVec 32).toNat < 2048

/-- The elements of chunk `n` of a matrix of the full size: eight whole rows. -/
def ck (n : ℕ) : Finset S16384x2048.Idx := Finset.univ.filter fun i => (i 0).val / 8 = n

/-- The block of eight rows `x` holds in chunk `n`. -/
def blk (d : Dev nD) (n : ℕ) : S8x2048.Idx → Elt F .f32 :=
  fun y => (m (xLoc d) : S16384x2048.Idx → Elt F .f32)
    (ix2 (n0 := 16384) (n1 := 2048) ⟨(8 * n + (y 0).val) % 16384, Nat.mod_lt _ (by decide)⟩ (y 1))

end Cert.Proof.Permute

end
-- ==== Proof.Moves.lean ====
/-
  The tile's transfers: a chunk of `x` into a block in tile memory, a block out to a chunk of the
  result, and the waits, each as one step at the head of a program. A transfer in flight is held as
  what its wait gives back, stated by the values.
-/
module

public import proofs.«01_k».proof.Proof.Base

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight Flight_mono MayWaits wp_dmaLocal wp_waitLocalO)

variable {F : FTy → Type}

local notation "𝕄" => MT nD τ sig (HIx 1) (Elt F) ℕ UU ℕ

/-- The counters' state lies in the part of the resource that invariants may hold. -/
instance EC_landsIn : (EC : UEmb Counters 𝕄).LandsIn (upEmb : UEmb _ 𝕄) := by unfold EC; infer_instance

/-- The thread of the tile at grid coordinates `i`. -/
abbrev thr (d : Dev nD) (i : grid0.Coords) : Thread nD τ := V d ((i 0).castLE hcore0) ((i 1).castLE hsub0)

variable (m : (ℓ : Loc nD τ sig) → Buf (Elt F) ℓ)

/-- A block in tile memory, whatever it holds. -/
def free (d : Dev nD) (i : grid0.Coords) (b : Memref sig .scVector .vmem S8x2048 .f32) : sProp 𝕄 :=
  iprop(∃ f, (b.view.loc (thr d i) ↦[Finset.univ]{fullShare} f))

/-- A block in tile memory that reads `X`. -/
def holds (d : Dev nD) (i : grid0.Coords) (b : Memref sig .scVector .vmem S8x2048 .f32) (X : S8x2048.Idx → Elt F .f32) : sProp 𝕄 :=
  iprop(∃ f, ⌜b.view.read (Elt F) f = X⌝ ∗ (b.view.loc (thr d i) ↦[Finset.univ]{fullShare} f))

/-- Chunk `n` of `x` at its launch contents; -/
def xck (d : Dev nD) (n : ℕ) : sProp 𝕄 := iprop(xLoc d ↦[(ck n : Finset (Idx (xLoc d)))]{fullShare} m (xLoc d))
/-- chunk `n` of the result at its launch contents; -/
def ock (d : Dev nD) (n : ℕ) : sProp 𝕄 := iprop(oLoc d ↦[(ck n : Finset (Idx (oLoc d)))]{fullShare} m (oLoc d))
/-- chunk `n` of the result as it is to be. -/
def gck (d : Dev nD) (n : ℕ) : sProp 𝕄 := iprop(oLoc d ↦[(ck n : Finset (Idx (oLoc d)))]{fullShare} G m d)

variable [FloatOps F]

/-- The tile's debts, the waits it has done beyond `W` all under no index. -/
def ow (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

/-- The eight rows from row `8 * n` of the matrix are chunk `n`. -/
theorem unit_set (n : ℕ) {off : Fin 2 → ℕ} (hoff : off = ![8 * n, 0]) (inb : ∀ a, off a + S8x2048.size a ≤ S16384x2048.size a) :
    (Rect.unit (s := S16384x2048) off S8x2048.size inb).set = ck n := by
  subst hoff
  ext j
  have h1 : (j 1).val < 2048 := (j 1).isLt
  rw [Rect.mem_set_unit]
  simp only [ck, Finset.mem_filter, Finset.mem_univ, true_and]
  constructor
  · intro h
    have h0 : 8 * n ≤ (j 0).val ∧ (j 0).val < 8 * n + 8 := h 0
    omega
  · intro h a
    match a with
    | ⟨0, _⟩ => show 8 * n ≤ (j 0).val ∧ (j 0).val < 8 * n + 8; omega
    | ⟨1, _⟩ => show 0 ≤ (j 1).val ∧ (j 1).val < 0 + 2048; omega

/-- What a chunk read at its place in `x` holds. -/
theorem read_unit (d : Dev nD) (n : ℕ) {off : Fin 2 → ℕ} (hoff : off = ![8 * n, 0]) (inb : ∀ a, off a + S8x2048.size a ≤ S16384x2048.size a)
    (y : S8x2048.Idx) :
    (m (xLoc d) : S16384x2048.Idx → Elt F .f32) ((Rect.unit (s := S16384x2048) off S8x2048.size inb).emb y) = blk m d n y := by
  subst hoff
  have hb : 8 * n + 8 ≤ 16384 := inb 0
  have h0 : (y 0).val < 8 := (y 0).isLt
  refine congrArg (m (xLoc d) : S16384x2048.Idx → Elt F .f32) (funext fun a => Fin.ext ?_)
  match a with
  | ⟨0, _⟩ => show 8 * n + 1 * (y 0).val = (8 * n + (y 0).val) % 16384; omega
  | ⟨1, _⟩ => show 0 + 1 * (y 1).val = (y 1).val; omega

/-- What the result is to hold at a chunk's place: the chunk of `x`, gathered. -/
theorem G_unit (d : Dev nD) (n : ℕ) {off : Fin 2 → ℕ} (hoff : off = ![8 * n, 0]) (inb : ∀ a, off a + S8x2048.size a ≤ S16384x2048.size a)
    (y : S8x2048.Idx) :
    (G m d : S16384x2048.Idx → Elt F .f32) ((Rect.unit (s := S16384x2048) off S8x2048.size inb).emb y) = gat (blk m d n) (m (pLoc d)) y := by
  subst hoff
  have hb : 8 * n + 8 ≤ 16384 := inb 0
  have h0 : (y 0).val < 8 := (y 0).isLt
  have e : ((Rect.unit (s := S16384x2048) ![8 * n, 0] S8x2048.size inb).emb y) 1 = (y 1 : Fin 2048) := Fin.ext (by show 0 + 1 * (y 1).val = (y 1).val; omega)
  refine congrArg (m (xLoc d) : S16384x2048.Idx → Elt F .f32) (funext fun a => Fin.ext ?_)
  match a with
  | ⟨0, _⟩ => show 8 * n + 1 * (y 0).val = (8 * n + (y 0).val) % 16384; omega
  | ⟨1, _⟩ =>
    show (col (m (pLoc d)) (((Rect.unit (s := S16384x2048) ![8 * n, 0] S8x2048.size inb).emb y) 1)).val = (col (m (pLoc d)) (y 1)).val
    rw [e]

/-- The credit of one block's transfer into the result. -/
def NO : ℕ := (oV.slice (Rect.unit (s := S16384x2048) (fun _ => 0) S8x2048.size (by decide)) (fun _ => rfl)).view.dmaCredit

/-- A chunk of `x` starts on its way into a block: the wait will give the block back reading the chunk, and the chunk. -/
theorem issue_in {γ : Type} (d : Dev nD) (i : grid0.Coords) (b : Memref sig .scVector .vmem S8x2048 .f32) (sem : DmaSem sig) (n : ℕ)
    {off : Fin 2 → ℕ} (hoff : off = ![8 * n, 0]) {inb : ∀ a, off a + S8x2048.size a ≤ S16384x2048.size a}
    {hsl : ∀ a, (Rect.unit (s := S16384x2048) off S8x2048.size inb).stride a = 1}
    {hsrc : (xV.slice (Rect.unit (s := S16384x2048) off S8x2048.size inb) hsl).view.WordExact} {hdst : b.view.WordExact}
    {hsem : DmaTarget.Typed (nD := nD) (p := (thr d i).2) Space.hbm (.dma sem) (.here b)}
    {k : PUnit → Prog (TpuEff nD τ sig (Elt F) Λ₀ (thr d i).2) γ} {Q : γ → sProp 𝕄} :
    iprop(xck m d n ∗ free d i b ∗ semVal (thr d i, SemLoc.dma sem) 0)
      ⊢ iprop((Flight EC (thr d i) (.dma sem) none b.view.dmaCredit iprop(holds d i b (blk m d n) ∗ xck m d n)
            -∗ wp frame (wpE (defs₀ (F := F)) 𝒱₀ (thr d i) none) Set.univ (k ⟨⟩) Q)
        -∗ wp frame (wpE (defs₀ (F := F)) 𝒱₀ (thr d i) none) Set.univ
            (.op (.enqueueDma (xV.slice (Rect.unit (s := S16384x2048) off S8x2048.size inb) hsl) (.here b) (.dma sem) hsrc hdst hsem) k) Q) := by
  have hset : (xV.slice (Rect.unit (s := S16384x2048) off S8x2048.size inb) hsl).view.set = (ck n : Finset S16384x2048.Idx) :=
    (View.set_slice_whole _ _).trans (unit_set n hoff inb)
  have hx : xck m d n = iprop((xV.slice (Rect.unit (s := S16384x2048) off S8x2048.size inb) hsl).view.loc (thr d i)
      ↦[(xV.slice (Rect.unit (s := S16384x2048) off S8x2048.size inb) hsl).view.set]{fullShare} m (xLoc d)) := by
    rw [hset]; rfl
  rw [hx]
  unfold free
  iintro ⟨Hx, ⟨%f0, Hb⟩, Hv⟩ Hk
  iapply (wp_dmaLocal EC 𝒱₀ (thr d i) none (src := xV.slice (Rect.unit (s := S16384x2048) off S8x2048.size inb) hsl) (dst := b) (sm := .dma sem)
    (q := fullShare) (fs := m (xLoc d)) (Sd := Finset.univ) (fd := f0) none b.view.dmaCredit rfl (View.dmaCredit_pos _ (show 0 < S8x2048.numel by decide)) (Finset.subset_univ _)) $$ [Hx Hb Hv]
  · isplitl [Hx]; · iassumption
    isplitl [Hb] <;> iassumption
  iintro HF
  iapply Hk
  iapply (Flight_mono EC (thr d i) ?_) $$ HF
  unfold holds
  iintro ⟨Hb, Hx⟩
  isplitl [Hb]; rotate_left; · iassumption
  iexists _; isplitr; rotate_left; · iassumption
  ipureintro
  rw [View.read_write_univ]
  funext y
  exact read_unit m d n hoff inb y

/-- A gathered block starts on its way out to its chunk of the result: the wait will give the chunk back as it is to be, and the
    block. -/
theorem issue_out {γ : Type} (d : Dev nD) (i : grid0.Coords) (b : Memref sig .scVector .vmem S8x2048 .f32) (hb : b.view.set = Finset.univ)
    (sem : DmaSem sig) (n : ℕ)
    {off : Fin 2 → ℕ} (hoff : off = ![8 * n, 0]) {inb : ∀ a, off a + S8x2048.size a ≤ S16384x2048.size a}
    {hsl : ∀ a, (Rect.unit (s := S16384x2048) off S8x2048.size inb).stride a = 1}
    {hdst : (oV.slice (Rect.unit (s := S16384x2048) off S8x2048.size inb) hsl).view.WordExact} {hsrc : b.view.WordExact}
    {hsem : DmaTarget.Typed (nD := nD) (p := (thr d i).2) Space.vmem (.dma sem) (.here (oV.slice (Rect.unit (s := S16384x2048) off S8x2048.size inb) hsl))}
    {k : PUnit → Prog (TpuEff nD τ sig (Elt F) Λ₀ (thr d i).2) γ} {Q : γ → sProp 𝕄} :
    iprop(holds d i b (gat (blk m d n) (m (pLoc d))) ∗ ock m d n ∗ semVal (thr d i, SemLoc.dma sem) 0)
      ⊢ iprop((Flight EC (thr d i) (.dma sem) none NO iprop(gck m d n ∗ free d i b)
            -∗ wp frame (wpE (defs₀ (F := F)) 𝒱₀ (thr d i) none) Set.univ (k ⟨⟩) Q)
        -∗ wp frame (wpE (defs₀ (F := F)) 𝒱₀ (thr d i) none) Set.univ
            (.op (.enqueueDma b (.here (oV.slice (Rect.unit (s := S16384x2048) off S8x2048.size inb) hsl)) (.dma sem) hsrc hdst hsem) k) Q) := by
  have hset : (oV.slice (Rect.unit (s := S16384x2048) off S8x2048.size inb) hsl).view.set = (ck n : Finset S16384x2048.Idx) :=
    (View.set_slice_whole _ _).trans (unit_set n hoff inb)
  have ho : ock m d n = iprop((oV.slice (Rect.unit (s := S16384x2048) off S8x2048.size inb) hsl).view.loc (thr d i)
      ↦[(oV.slice (Rect.unit (s := S16384x2048) off S8x2048.size inb) hsl).view.set]{fullShare} m (oLoc d)) := by
    rw [hset]; rfl
  have hg : gck m d n = iprop((oV.slice (Rect.unit (s := S16384x2048) off S8x2048.size inb) hsl).view.loc (thr d i)
      ↦[(oV.slice (Rect.unit (s := S16384x2048) off S8x2048.size inb) hsl).view.set]{fullShare} G m d) := by
    rw [hset]; rfl
  rw [ho, hg]
  unfold holds
  iintro ⟨⟨%f0, %hf0, Hb⟩, Ho, Hv⟩ Hk
  have hval : ∀ j ∈ (oV.slice (Rect.unit (s := S16384x2048) off S8x2048.size inb) hsl).view.set,
      (oV.slice (Rect.unit (s := S16384x2048) off S8x2048.size inb) hsl).view.write (Elt F) (m (oLoc d)) (b.view.read (Elt F) f0) Finset.univ j = G m d j := by
    intro j hj
    obtain ⟨y, -, rfl⟩ := Finset.mem_map.mp hj
    rw [View.write_emb_of_mem _ _ (Finset.mem_univ y), hf0]
    exact (G_unit m d n hoff inb y).symm
  iapply (wp_dmaLocal EC 𝒱₀ (thr d i) none (src := b) (dst := oV.slice (Rect.unit (s := S16384x2048) off S8x2048.size inb) hsl) (sm := .dma sem)
    (q := fullShare) (fs := f0) (Sd := (oV.slice (Rect.unit (s := S16384x2048) off S8x2048.size inb) hsl).view.set) (fd := m (oLoc d)) none NO rfl
    (View.dmaCredit_pos _ (show 0 < S8x2048.numel by decide)) (Finset.Subset.refl _)) $$ [Hb Ho Hv]
  · isplitl [Hb]; · rw [hb]; iassumption
    isplitl [Ho] <;> iassumption
  iintro HF
  iapply Hk
  iapply (Flight_mono EC (thr d i) ?_) $$ HF
  unfold free
  rw [hb]
  iintro ⟨Ho, Hb⟩
  isplitl [Ho]; rotate_left
  · iexists f0; iassumption
  iapply (Entails.of_eq (pointsTo_congr hval)) $$ Ho

/-- A wait for a transfer in flight gives back what the flight carries, with the tile's debts as they were. -/
theorem wait_step {γ : Type} (d : Dev nD) (i : grid0.Coords) (sem : DmaSem sig) {N : ℕ} {Dl : sProp 𝕄}
    {O : CellTallies nD τ sig (HIx 1)} {W : Waits sig (HIx 1)}
    {sp sp' : Space} {s s' : Shape} {e e' : EltTy} {κ' : Kind} {srcw : Memref sig (thr d i).2.kind sp' s' e'} {dstw : Memref sig κ' sp s e}
    {hsrc : srcw.view.WordExact} {hdst : dstw.view.WordExact} (hN : dstw.view.dmaCredit = N)
    {k : PUnit → Prog (TpuEff nD τ sig (Elt F) Λ₀ (thr d i).2) γ} {Q : γ → sProp 𝕄} :
    iprop(Flight EC (thr d i) (.dma sem) none N Dl ∗ ow d i O W ∗ MayWaits (thr d i) none O)
      ⊢ iprop((Dl -∗ semVal (thr d i, SemLoc.dma sem) 0 -∗ ow d i O W -∗ wp frame (wpE (defs₀ (F := F)) 𝒱₀ (thr d i) none) Set.univ (k ⟨⟩) Q)
        -∗ wp frame (wpE (defs₀ (F := F)) 𝒱₀ (thr d i) none) Set.univ (.op (.waitDma2 sem srcw dstw hsrc hdst) k) Q) := by
  unfold ow
  iintro ⟨HF, ⟨%W', %hW', HO⟩, Hmw⟩ Hk
  iapply (wp_waitLocalO EC 𝒱₀ (thr d i) none (sem := sem) (srcw := srcw) (dstw := dstw) (D := Dl) (O := O) (W := W') none hN) $$ [HF HO Hmw]
  · isplitl [HF]; · iassumption
    isplitl [HO]; · iassumption
    iapply (Transfers.MayWaits.elim (SemLoc.dma sem)) $$ Hmw
  iintro ⟨HD, Hv, HO⟩
  iapply Hk $$ HD Hv
  iexists _; isplitr; rotate_left; · iassumption
  ipureintro
  intro p hp
  rcases Finset.mem_insert.mp hp with rfl | hp
  · exact .inr rfl
  · exact hW' p hp

end Cert.Proof.Permute

end
-- ==== Proof.Trip.lean ====
/-
  What one trip of the column loop computes: sixteen columns of the outgoing block, in each of its
  eight rows the incoming block's row at the columns sixteen entries of the permutation name.
-/
module

public import proofs.«01_k».proof.Proof.Base
public import Idealize.ShloMosaic.Lib.Writes
public import Idealize.ShloMosaic.Lib.Pipeline.Value

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-- Writing sixteen elements of one row at one place: the contents elsewhere stay, and those sixteen
    read the payload. -/
theorem read_row_store {sp : Space} (v : View sig .scVector sp S8x2048 .f32) (f : v.ty.Contents (Elt F)) (r t : ℕ) (off : Fin 2 → ℕ) (hoff : off = ![r, 16 * t])
    (inb : ∀ a, off a + S1x16.size a ≤ S8x2048.size a) (w : S16.Idx → Elt F .f32) (y : S8x2048.Idx) (Z : Elt F .f32)
    (hZ : ∀ z : Fin 16, (y 0).val = r → (y 1).val = 16 * t + z.val → w (ix1 z) = Z) :
    v.read (Elt F) (v.writes (Elt F) f [⟨Rect.unit (s := S8x2048) off S1x16.size inb, shapeCast S1x16 w shapeCasts_S16_S1x16⟩]) y
      = if (y 0).val = r ∧ 16 * t ≤ (y 1).val ∧ (y 1).val < 16 * t + 16 then Z else v.read (Elt F) f y := by
  subst hoff
  split_ifs with h
  · obtain ⟨h0, h1, h2⟩ := h
    have e : y = (Rect.unit (s := S8x2048) ![r, 16 * t] S1x16.size inb).emb (ix2 (n0 := 1) (n1 := 16) 0 ⟨(y 1).val - 16 * t, by omega⟩) := by
      funext a
      apply Fin.ext
      match a with
      | ⟨0, _⟩ => show (y 0).val = r + 1 * 0; omega
      | ⟨1, _⟩ => show (y 1).val = 16 * t + 1 * ((y 1).val - 16 * t); omega
    rw [e, View.read_writes_cons_emb]
    refine (shapeCast_addUnit_apply ![16] w shapeCasts_S16_S1x16 _).trans ?_
    rw [← hZ ⟨(y 1).val - 16 * t, by omega⟩ h0 (by show _ = 16 * t + ((y 1).val - 16 * t); omega)]
    exact congrArg w (funext fun a => match a with | ⟨0, _⟩ => rfl)
  · refine View.read_writes_apply_of_forall_not_mem v f y _ fun p hp hm => h ?_
    obtain rfl := List.mem_singleton.mp hp
    have hm' := (Rect.mem_set_unit (s := S8x2048) (inb := inb)).mp hm
    have h0 : r ≤ (y 0).val ∧ (y 0).val < r + 1 := hm' 0
    have h1 : 16 * t ≤ (y 1).val ∧ (y 1).val < 16 * t + 16 := hm' 1
    exact ⟨by omega, h1⟩

/-- One row of one trip: the incoming block, gathered at row `r` and the sixteen columns `v51` names, goes to the outgoing block's row `r`. The outgoing block reads, at those sixteen elements, the
    gathered block, and elsewhere what it read. -/
theorem row_step {γ : Type} (d : Dev nD) (i : grid0.Coords) (pc : S2048.Idx → BitVec 32)
    (src dst : Memref sig .scVector .vmem S8x2048 .f32)
    {fin : Buf (Elt F) (src.view.loc (V d ((i 0).castLE hcore0) ((i 1).castLE hsub0)))}
    {f : Buf (Elt F) (dst.view.loc (V d ((i 0).castLE hcore0) ((i 1).castLE hsub0)))}
    (r t : ℕ) (hr : r < 8) {v51 v52 : IVec S16 32} (h52 : v52 = broadcast S16 (BitVec.ofNat 32 r))
    (h51 : ∀ z : Fin 16, ∀ h : 16 * t + z.val < 2048, v51 (ix1 z) = pc (ix1 ⟨16 * t + z.val, h⟩)) (hpc : ∀ j, (pc j).toNat < 2048)
    {hinb : ∀ a x, ((![v52, v51] : Fin 2 → IVec S16 32) a x).toNat < S8x2048.size a}
    {off : Fin 2 → ℕ} (hoff : off = ![r, 16 * t]) {inb : ∀ a, off a + S1x16.size a ≤ S8x2048.size a}
    {hlo : dst.view.LoadsAt (Rect.unit (s := S8x2048) off S1x16.size inb).toLoadRect}
    {hst : (dst.access (Rect.unit (s := S8x2048) off S1x16.size inb)).Stores Finset.univ}
    {hm : (Finset.univ : Finset (Rect.unit (s := S8x2048) off S1x16.size inb).shape.Idx) = Finset.univ ∨ ∀ a, (Rect.unit (s := S8x2048) off S1x16.size inb).stride a = 1}
    {k : PUnit → Prog (TpuEff nD τ sig (Elt F) Λ₀ (.scVector ((i 0).castLE hcore0) ((i 1).castLE hsub0))) γ} {Q : γ → sProp 𝕄} :
    iprop((src.view.loc (V d ((i 0).castLE hcore0) ((i 1).castLE hsub0)) ↦[Finset.univ]{fullShare} fin)
        ∗ (dst.view.loc (V d ((i 0).castLE hcore0) ((i 1).castLE hsub0)) ↦[Finset.univ]{fullShare} f))
      ⊢ iprop((∀ f', ⌜∀ y, dst.view.read (Elt F) f' y
              = if (y 0).val = r ∧ 16 * t ≤ (y 1).val ∧ (y 1).val < 16 * t + 16 then gat (src.view.read (Elt F) fin) pc y else dst.view.read (Elt F) f y⌝
            -∗ (src.view.loc (V d ((i 0).castLE hcore0) ((i 1).castLE hsub0)) ↦[Finset.univ]{fullShare} fin)
            -∗ (dst.view.loc (V d ((i 0).castLE hcore0) ((i 1).castLE hsub0)) ↦[Finset.univ]{fullShare} f')
            -∗ wp frame (wpE (defs₀ (F := F)) 𝒱₀ (V d ((i 0).castLE hcore0) ((i 1).castLE hsub0)) none) Set.univ (k ⟨⟩) Q)
        -∗ wp frame (wpE (defs₀ (F := F)) 𝒱₀ (V d ((i 0).castLE hcore0) ((i 1).castLE hsub0)) none) Set.univ
            (.op (.load dst (Rect.unit (s := S8x2048) off S1x16.size inb).toLoadRect hlo) fun _ =>
              .op (.store dst (Rect.unit (s := S8x2048) off S1x16.size inb) (shapeCast S1x16 (loadIdx ((src.access (.whole S8x2048)).read (Elt F) fin) ![v52, v51] hinb) shapeCasts_S16_S1x16) Finset.univ hst hm) k) Q) := by
  iintro ⟨Hs, Hd⟩ Hk
  iapply (wp_load 𝒱₀ (V d ((i 0).castLE hcore0) ((i 1).castLE hsub0)) none Set.univ (m := dst) (r := (Rect.unit (s := S8x2048) off S1x16.size inb).toLoadRect) (hl := hlo) (S := Finset.univ) (q := fullShare) (f := f) (Finset.subset_univ _)) $$ Hd
  iintro Hd
  iapply (wp_store_writes₀ 𝒱₀ (V d ((i 0).castLE hcore0) ((i 1).castLE hsub0)) none Set.univ (m := dst) (r := Rect.unit (s := S8x2048) off S1x16.size inb) (hx := hst) (hm := hm) (S := Finset.univ) (f := f) (Finset.subset_univ _)) $$ Hd
  iintro Hd
  iapply Hk $$ [] Hs Hd
  ipureintro
  intro y
  refine read_row_store dst.view f r t off hoff inb _ y _ fun z h0 hz => ?_
  subst h52
  show (src.view.read (Elt F) fin) _ = (src.view.read (Elt F) fin) _
  refine congrArg (src.view.read (Elt F) fin) (funext fun a => Fin.ext ?_)
  have h1 : (y 1).val < 2048 := (y 1).isLt
  match a with
  | ⟨0, _⟩ =>
    show 0 + 1 * (BitVec.ofNat 32 r).toNat = (y 0).val
    rw [BitVec.toNat_ofNat, Nat.mod_eq_of_lt (by omega)]; omega
  | ⟨1, _⟩ =>
    show 0 + 1 * (v51 (ix1 z)).toNat = (pc (ix1 (y 1))).toNat % 2048
    rw [h51 z (by omega), Nat.mod_eq_of_lt (hpc _)]
    have e : (⟨16 * t + z.val, by omega⟩ : Fin 2048) = y 1 := Fin.ext hz.symm
    rw [e]; omega

/-! ## The whole column loop -/

/-- The columns below `n` of the outgoing block hold the gathered block. -/
def Upto (X : S8x2048.Idx → Elt F .f32) (pc : S2048.Idx → BitVec 32) (n : ℕ) (g : S8x2048.Idx → Elt F .f32) : Prop :=
  ∀ y : S8x2048.Idx, (y 1).val < n → g y = gat X pc y

/-- What the column loop holds after `t` trips: the permutation's table, the incoming block, and the outgoing block gathered
    in its first `16 * t` columns. -/
def tripInv (d : Dev nD) (i : grid0.Coords) (tab : Memref sig .scVector .vmem S2048 .i32) (src dst : Memref sig .scVector .vmem S8x2048 .f32)
    (ft : Buf (Elt F) (tab.view.loc (V d ((i 0).castLE hcore0) ((i 1).castLE hsub0))))
    (fin : Buf (Elt F) (src.view.loc (V d ((i 0).castLE hcore0) ((i 1).castLE hsub0)))) (t : ℕ) (_ : Unit) : sProp 𝕄 :=
  iprop((tab.view.loc (V d ((i 0).castLE hcore0) ((i 1).castLE hsub0)) ↦[Finset.univ]{fullShare} ft)
    ∗ (src.view.loc (V d ((i 0).castLE hcore0) ((i 1).castLE hsub0)) ↦[Finset.univ]{fullShare} fin)
    ∗ ∃ f, ⌜Upto (src.view.read (Elt F) fin) (tab.view.read (Elt F) ft) (16 * t) (dst.view.read (Elt F) f)⌝
        ∗ (dst.view.loc (V d ((i 0).castLE hcore0) ((i 1).castLE hsub0)) ↦[Finset.univ]{fullShare} f))

set_option maxHeartbeats 4000000 in
/-- One trip: eight rows, sixteen columns each. -/
theorem trip_step (d : Dev nD) (i : grid0.Coords)
    (arg2 : Memref sig .scVector .hbm S16384x2048 .f32) (harg2 : arg2.IsWhole) (arg3 : Memref sig .scVector .hbm S2048 .i32) (harg3 : arg3.IsWhole)
    (arg4 : Memref sig .scVector .hbm S16384x2048 .f32) (harg4 : arg4.IsWhole) (arg5 : Memref sig .scVector .vmem S2048 .i32) (harg5 : arg5.IsWhole)
    (arg6 : Memref sig .scVector .vmem S8x2048 .f32) (harg6 : arg6.IsWhole) (arg7 : Memref sig .scVector .vmem S8x2048 .f32) (harg7 : arg7.IsWhole)
    (arg8 : Memref sig .scVector .vmem S8x2048 .f32) (harg8 : arg8.IsWhole) (arg9 : Memref sig .scVector .vmem S8x2048 .f32) (harg9 : arg9.IsWhole)
    (arg10 arg11 arg12 arg13 v13 : DmaSems sig S_) (v2 c0 c1 : BitVec 32) (t1 : Fin k0_t1_loop.trips)
    (ft : Buf (Elt F) (arg5.view.loc (V d ((i 0).castLE hcore0) ((i 1).castLE hsub0))))
    (fin : Buf (Elt F) (arg6.view.loc (V d ((i 0).castLE hcore0) ((i 1).castLE hsub0))))
    (hpc : ∀ j, (arg5.view.read (Elt F) ft j : BitVec 32).toNat < 2048) (t : Fin k0_t2_loop.trips) (a : Unit) :
    tripInv d i arg5 arg6 arg8 ft fin t.val a
      ⊢ wp frame (wpE (defs₀ (F := F)) 𝒱₀ (V d ((i 0).castLE hcore0) ((i 1).castLE hsub0)) none) Set.univ
          (k0_t2_body i arg2 harg2 arg3 harg3 arg4 harg4 arg5 harg5 arg6 harg6 arg7 harg7 arg8 harg8 arg9 harg9 arg10 arg11 arg12 arg13 v13 v2 c0 c1 t1 t a)
          (tripInv d i arg5 arg6 arg8 ft fin (t.val + 1)) := by
  unfold k0_t2_body
  simp only [k0_part1_eq_skeleton]
  unfold k0_part1_skel
  simp only [Prog.lift, Prog.bind_op, Prog.bind_ret, Prog.pure_eq_ret, Prog.bind_assoc]
  unfold tripInv
  iintro ⟨Ht, Hs, %f0, %hf0, Hd⟩
  iapply (wp_load 𝒱₀ (V d ((i 0).castLE hcore0) ((i 1).castLE hsub0)) none Set.univ (m := arg5) (r := (Rect.unit (s := S2048) (k0_off5 t) S16.size (k0_off5_inb t)).toLoadRect)
    (S := Finset.univ) (q := fullShare) (f := ft) (Finset.subset_univ _)) $$ Ht
  iintro Ht
  have ht : t.val < 128 := t.isLt
  have h51 : ∀ z : Fin 16, ∀ h : 16 * t.val + z.val < 2048,
      (arg5.view.readAt (Elt F) (Rect.unit (s := S2048) (k0_off5 t) S16.size (k0_off5_inb t)).toLoadRect ft) (ix1 z)
        = arg5.view.read (Elt F) ft (ix1 ⟨16 * t.val + z.val, h⟩) := by
    intro z h
    refine congrArg (arg5.view.read (Elt F) ft) (funext fun a => match a with | ⟨0, _⟩ => Fin.ext ?_)
    show k0_off5 t 0 + 1 * z.val = 16 * t.val + z.val
    rw [k0_off5_eq t]
    show 16 * t.val + 1 * z.val = _
    omega
  generalize arg5.view.readAt (Elt F) (Rect.unit (s := S2048) (k0_off5 t) S16.size (k0_off5_inb t)).toLoadRect ft = v51 at h51 ⊢
  have hchk : ∀ (v52 : IVec S16 32) (r : ℕ), r < 8 → v52 = broadcast S16 (BitVec.ofNat 32 r) →
      ∀ (a : Fin 2) (x : S16.Idx), ((![v52, v51] : Fin 2 → IVec S16 32) a x).toNat < S8x2048.size a := by
    intro v52 r hr e a x
    subst e
    match a with
    | ⟨0, _⟩ =>
      show (BitVec.ofNat 32 r).toNat < 8
      rw [BitVec.toNat_ofNat, Nat.mod_eq_of_lt (by omega)]; exact hr
    | ⟨1, _⟩ =>
      show (v51 x).toNat < 2048
      have hx : (x 0).val < 16 := (x 0).isLt
      rw [eq_ix1 (n0 := 16) x, h51 (x 0) (by omega)]; exact hpc _
  rw [wp_assume_of (P := k0_chk1 v51 (broadcast S16 0#32)) (d := k0_chk1.dec v51 (broadcast S16 0#32)) _ _ _ _ (hchk _ 0 (by decide) rfl)]
  iapply (SparseCore.wp_vectorLoadIdx 𝒱₀ (V d ((i 0).castLE hcore0) ((i 1).castLE hsub0)) none Set.univ (base := arg6) (idxs := ![broadcast S16 0#32, v51])
    (h := k0_idx1_inb v51 (broadcast S16 0#32) (hchk _ 0 (by decide) rfl)) (S := Finset.univ) (q := fullShare) (f := fin) (Finset.subset_univ _)) $$ Hs
  iintro Hs
  iapply (row_step d i (arg5.view.read (Elt F) ft) arg6 arg8 (fin := fin) (f := f0) 0 t.val (by decide) (v51 := v51) (v52 := broadcast S16 0#32) rfl h51 hpc
    (hinb := k0_idx1_inb v51 (broadcast S16 0#32) (hchk _ 0 (by decide) rfl))
    (k0_off6_eq t)) $$ [$Hs $Hd]
  iintro %f1 %hf1 Hs Hd
  rw [wp_assume_of (P := k0_chk2 v51 (broadcast S16 1#32)) (d := k0_chk2.dec v51 (broadcast S16 1#32)) _ _ _ _ (hchk _ 1 (by decide) rfl)]
  iapply (SparseCore.wp_vectorLoadIdx 𝒱₀ (V d ((i 0).castLE hcore0) ((i 1).castLE hsub0)) none Set.univ (base := arg6) (idxs := ![broadcast S16 1#32, v51])
    (h := k0_idx2_inb v51 (broadcast S16 1#32) (hchk _ 1 (by decide) rfl)) (S := Finset.univ) (q := fullShare) (f := fin) (Finset.subset_univ _)) $$ Hs
  iintro Hs
  iapply (row_step d i (arg5.view.read (Elt F) ft) arg6 arg8 (fin := fin) (f := f1) 1 t.val (by decide) (v51 := v51) (v52 := broadcast S16 1#32) rfl h51 hpc
    (hinb := k0_idx2_inb v51 (broadcast S16 1#32) (hchk _ 1 (by decide) rfl))
    (k0_off7_eq t)) $$ [$Hs $Hd]
  iintro %f2 %hf2 Hs Hd
  rw [wp_assume_of (P := k0_chk3 v51 (broadcast S16 2#32)) (d := k0_chk3.dec v51 (broadcast S16 2#32)) _ _ _ _ (hchk _ 2 (by decide) rfl)]
  iapply (SparseCore.wp_vectorLoadIdx 𝒱₀ (V d ((i 0).castLE hcore0) ((i 1).castLE hsub0)) none Set.univ (base := arg6) (idxs := ![broadcast S16 2#32, v51])
    (h := k0_idx3_inb v51 (broadcast S16 2#32) (hchk _ 2 (by decide) rfl)) (S := Finset.univ) (q := fullShare) (f := fin) (Finset.subset_univ _)) $$ Hs
  iintro Hs
  iapply (row_step d i (arg5.view.read (Elt F) ft) arg6 arg8 (fin := fin) (f := f2) 2 t.val (by decide) (v51 := v51) (v52 := broadcast S16 2#32) rfl h51 hpc
    (hinb := k0_idx3_inb v51 (broadcast S16 2#32) (hchk _ 2 (by decide) rfl))
    (k0_off8_eq t)) $$ [$Hs $Hd]
  iintro %f3 %hf3 Hs Hd
  rw [wp_assume_of (P := k0_chk4 v51 (broadcast S16 3#32)) (d := k0_chk4.dec v51 (broadcast S16 3#32)) _ _ _ _ (hchk _ 3 (by decide) rfl)]
  iapply (SparseCore.wp_vectorLoadIdx 𝒱₀ (V d ((i 0).castLE hcore0) ((i 1).castLE hsub0)) none Set.univ (base := arg6) (idxs := ![broadcast S16 3#32, v51])
    (h := k0_idx4_inb v51 (broadcast S16 3#32) (hchk _ 3 (by decide) rfl)) (S := Finset.univ) (q := fullShare) (f := fin) (Finset.subset_univ _)) $$ Hs
  iintro Hs
  iapply (row_step d i (arg5.view.read (Elt F) ft) arg6 arg8 (fin := fin) (f := f3) 3 t.val (by decide) (v51 := v51) (v52 := broadcast S16 3#32) rfl h51 hpc
    (hinb := k0_idx4_inb v51 (broadcast S16 3#32) (hchk _ 3 (by decide) rfl))
    (k0_off9_eq t)) $$ [$Hs $Hd]
  iintro %f4 %hf4 Hs Hd
  rw [wp_assume_of (P := k0_chk5 v51 (broadcast S16 4#32)) (d := k0_chk5.dec v51 (broadcast S16 4#32)) _ _ _ _ (hchk _ 4 (by decide) rfl)]
  iapply (SparseCore.wp_vectorLoadIdx 𝒱₀ (V d ((i 0).castLE hcore0) ((i 1).castLE hsub0)) none Set.univ (base := arg6) (idxs := ![broadcast S16 4#32, v51])
    (h := k0_idx5_inb v51 (broadcast S16 4#32) (hchk _ 4 (by decide) rfl)) (S := Finset.univ) (q := fullShare) (f := fin) (Finset.subset_univ _)) $$ Hs
  iintro Hs
  iapply (row_step d i (arg5.view.read (Elt F) ft) arg6 arg8 (fin := fin) (f := f4) 4 t.val (by decide) (v51 := v51) (v52 := broadcast S16 4#32) rfl h51 hpc
    (hinb := k0_idx5_inb v51 (broadcast S16 4#32) (hchk _ 4 (by decide) rfl))
    (k0_off10_eq t)) $$ [$Hs $Hd]
  iintro %f5 %hf5 Hs Hd
  rw [wp_assume_of (P := k0_chk6 v51 (broadcast S16 5#32)) (d := k0_chk6.dec v51 (broadcast S16 5#32)) _ _ _ _ (hchk _ 5 (by decide) rfl)]
  iapply (SparseCore.wp_vectorLoadIdx 𝒱₀ (V d ((i 0).castLE hcore0) ((i 1).castLE hsub0)) none Set.univ (base := arg6) (idxs := ![broadcast S16 5#32, v51])
    (h := k0_idx6_inb v51 (broadcast S16 5#32) (hchk _ 5 (by decide) rfl)) (S := Finset.univ) (q := fullShare) (f := fin) (Finset.subset_univ _)) $$ Hs
  iintro Hs
  iapply (row_step d i (arg5.view.read (Elt F) ft) arg6 arg8 (fin := fin) (f := f5) 5 t.val (by decide) (v51 := v51) (v52 := broadcast S16 5#32) rfl h51 hpc
    (hinb := k0_idx6_inb v51 (broadcast S16 5#32) (hchk _ 5 (by decide) rfl))
    (k0_off11_eq t)) $$ [$Hs $Hd]
  iintro %f6 %hf6 Hs Hd
  rw [wp_assume_of (P := k0_chk7 v51 (broadcast S16 6#32)) (d := k0_chk7.dec v51 (broadcast S16 6#32)) _ _ _ _ (hchk _ 6 (by decide) rfl)]
  iapply (SparseCore.wp_vectorLoadIdx 𝒱₀ (V d ((i 0).castLE hcore0) ((i 1).castLE hsub0)) none Set.univ (base := arg6) (idxs := ![broadcast S16 6#32, v51])
    (h := k0_idx7_inb v51 (broadcast S16 6#32) (hchk _ 6 (by decide) rfl)) (S := Finset.univ) (q := fullShare) (f := fin) (Finset.subset_univ _)) $$ Hs
  iintro Hs
  iapply (row_step d i (arg5.view.read (Elt F) ft) arg6 arg8 (fin := fin) (f := f6) 6 t.val (by decide) (v51 := v51) (v52 := broadcast S16 6#32) rfl h51 hpc
    (hinb := k0_idx7_inb v51 (broadcast S16 6#32) (hchk _ 6 (by decide) rfl))
    (k0_off12_eq t)) $$ [$Hs $Hd]
  iintro %f7 %hf7 Hs Hd
  rw [wp_assume_of (P := k0_chk8 v51 (broadcast S16 7#32)) (d := k0_chk8.dec v51 (broadcast S16 7#32)) _ _ _ _ (hchk _ 7 (by decide) rfl)]
  iapply (SparseCore.wp_vectorLoadIdx 𝒱₀ (V d ((i 0).castLE hcore0) ((i 1).castLE hsub0)) none Set.univ (base := arg6) (idxs := ![broadcast S16 7#32, v51])
    (h := k0_idx8_inb v51 (broadcast S16 7#32) (hchk _ 7 (by decide) rfl)) (S := Finset.univ) (q := fullShare) (f := fin) (Finset.subset_univ _)) $$ Hs
  iintro Hs
  iapply (row_step d i (arg5.view.read (Elt F) ft) arg6 arg8 (fin := fin) (f := f7) 7 t.val (by decide) (v51 := v51) (v52 := broadcast S16 7#32) rfl h51 hpc
    (hinb := k0_idx8_inb v51 (broadcast S16 7#32) (hchk _ 7 (by decide) rfl))
    (k0_off13_eq t)) $$ [$Hs $Hd]
  iintro %f8 %hf8 Hs Hd
  rw [wp_ret]; imodintro
  isplitl [Ht]; · iassumption
  isplitl [Hs]; · iassumption
  iexists f8; isplitr; rotate_left; · iassumption
  ipureintro
  intro y hy
  have hr : (y 0).val < 8 := (y 0).isLt
  rw [hf8 y, hf7 y, hf6 y, hf5 y, hf4 y, hf3 y, hf2 y, hf1 y]
  by_cases hlt : (y 1).val < 16 * t.val
  · simp only [show ¬ 16 * t.val ≤ (y 1).val by omega, false_and, and_false, if_false]
    exact hf0 y hlt
  · simp only [show 16 * t.val ≤ (y 1).val by omega, show (y 1).val < 16 * t.val + 16 by omega, and_true]
    split_ifs <;> first | (exfalso; omega) | rfl

set_option maxHeartbeats 1000000 in
/-- The column loop filling the first outgoing block: it ends with the outgoing block the gathered one. -/
theorem loop2 {γ : Type} (d : Dev nD) (i : grid0.Coords)
    (arg2 : Memref sig .scVector .hbm S16384x2048 .f32) (harg2 : arg2.IsWhole) (arg3 : Memref sig .scVector .hbm S2048 .i32) (harg3 : arg3.IsWhole)
    (arg4 : Memref sig .scVector .hbm S16384x2048 .f32) (harg4 : arg4.IsWhole) (arg5 : Memref sig .scVector .vmem S2048 .i32) (harg5 : arg5.IsWhole)
    (arg6 : Memref sig .scVector .vmem S8x2048 .f32) (harg6 : arg6.IsWhole) (arg7 : Memref sig .scVector .vmem S8x2048 .f32) (harg7 : arg7.IsWhole)
    (arg8 : Memref sig .scVector .vmem S8x2048 .f32) (harg8 : arg8.IsWhole) (arg9 : Memref sig .scVector .vmem S8x2048 .f32) (harg9 : arg9.IsWhole)
    (arg10 arg11 arg12 arg13 v13 : DmaSems sig S_) (v2 c0 c1 : BitVec 32) (t1 : Fin k0_t1_loop.trips)
    (ft : Buf (Elt F) (arg5.view.loc (V d ((i 0).castLE hcore0) ((i 1).castLE hsub0))))
    (fin : Buf (Elt F) (arg6.view.loc (V d ((i 0).castLE hcore0) ((i 1).castLE hsub0))))
    (hpc : ∀ j, (arg5.view.read (Elt F) ft j : BitVec 32).toNat < 2048)
    {k : Unit → Prog (TpuEff nD τ sig (Elt F) Λ₀ (.scVector ((i 0).castLE hcore0) ((i 1).castLE hsub0))) γ} {Q : γ → sProp 𝕄} :
    iprop((arg5.view.loc (V d ((i 0).castLE hcore0) ((i 1).castLE hsub0)) ↦[Finset.univ]{fullShare} ft)
        ∗ (arg6.view.loc (V d ((i 0).castLE hcore0) ((i 1).castLE hsub0)) ↦[Finset.univ]{fullShare} fin)
        ∗ ∃ f, (arg8.view.loc (V d ((i 0).castLE hcore0) ((i 1).castLE hsub0)) ↦[Finset.univ]{fullShare} f))
      ⊢ iprop((∀ f', ⌜arg8.view.read (Elt F) f' = gat (arg6.view.read (Elt F) fin) (arg5.view.read (Elt F) ft)⌝
            -∗ (arg5.view.loc (V d ((i 0).castLE hcore0) ((i 1).castLE hsub0)) ↦[Finset.univ]{fullShare} ft)
            -∗ (arg6.view.loc (V d ((i 0).castLE hcore0) ((i 1).castLE hsub0)) ↦[Finset.univ]{fullShare} fin)
            -∗ (arg8.view.loc (V d ((i 0).castLE hcore0) ((i 1).castLE hsub0)) ↦[Finset.univ]{fullShare} f')
            -∗ wp frame (wpE (defs₀ (F := F)) 𝒱₀ (V d ((i 0).castLE hcore0) ((i 1).castLE hsub0)) none) Set.univ (k ⟨⟩) Q)
        -∗ wp frame (wpE (defs₀ (F := F)) 𝒱₀ (V d ((i 0).castLE hcore0) ((i 1).castLE hsub0)) none) Set.univ
            (Scf.Loop.for k0_t2_loop k0_t2_ok ⟨⟩ (k0_t2_body i arg2 harg2 arg3 harg3 arg4 harg4 arg5 harg5 arg6 harg6 arg7 harg7 arg8 harg8 arg9 harg9
              arg10 arg11 arg12 arg13 v13 v2 c0 c1 t1) >>= k) Q) := by
  iintro ⟨Ht, Hs, %f0, Hd⟩ Hk
  iapply (Scf.wp_for_bind frame (wpE (defs₀ (F := F)) 𝒱₀ (V d ((i 0).castLE hcore0) ((i 1).castLE hsub0)) none) Set.univ _ _ _ k0_t2_ok ⟨⟩ _
    (tripInv d i arg5 arg6 arg8 ft fin)
    (trip_step d i arg2 harg2 arg3 harg3 arg4 harg4 arg5 harg5 arg6 harg6 arg7 harg7 arg8 harg8 arg9 harg9 arg10 arg11 arg12 arg13 v13 v2 c0 c1 t1 ft fin hpc)) $$ [Ht Hs Hd]
  · unfold tripInv
    isplitl [Ht]; · iassumption
    isplitl [Hs]; · iassumption
    iexists f0; isplitr; rotate_left; · iassumption
    ipureintro; intro y hy; exact absurd hy (by omega)
  · iintro %acc HI
    unfold tripInv
    icases HI with ⟨Ht, Hs, %f', %hf, Hd⟩
    iapply Hk $$ %f' [] Ht Hs Hd
    ipureintro
    funext y
    have h1 : (y 1).val < 2048 := (y 1).isLt
    exact hf y (by rw [show Scf.trips k0_t2_loop.lb k0_t2_loop.ub k0_t2_loop.st = 128 from rfl]; omega)

set_option maxHeartbeats 1000000 in
/-- The second column loop is the first between the other two blocks. -/
theorem loop3_eq (i : grid0.Coords)
    (arg2 : Memref sig .scVector .hbm S16384x2048 .f32) (harg2 : arg2.IsWhole) (arg3 : Memref sig .scVector .hbm S2048 .i32) (harg3 : arg3.IsWhole)
    (arg4 : Memref sig .scVector .hbm S16384x2048 .f32) (harg4 : arg4.IsWhole) (arg5 : Memref sig .scVector .vmem S2048 .i32) (harg5 : arg5.IsWhole)
    (arg6 : Memref sig .scVector .vmem S8x2048 .f32) (harg6 : arg6.IsWhole) (arg7 : Memref sig .scVector .vmem S8x2048 .f32) (harg7 : arg7.IsWhole)
    (arg8 : Memref sig .scVector .vmem S8x2048 .f32) (harg8 : arg8.IsWhole) (arg9 : Memref sig .scVector .vmem S8x2048 .f32) (harg9 : arg9.IsWhole)
    (arg10 arg11 arg12 arg13 v13 : DmaSems sig S_) (v2 c0 c1 : BitVec 32) (t1 : Fin k0_t1_loop.trips) :
    Scf.Loop.for k0_t3_loop k0_t3_ok ⟨⟩ (k0_t3_body (F := F) i arg2 harg2 arg3 harg3 arg4 harg4 arg5 harg5 arg6 harg6 arg7 harg7 arg8 harg8 arg9 harg9
        arg10 arg11 arg12 arg13 v13)
      = Scf.Loop.for k0_t2_loop k0_t2_ok ⟨⟩ (k0_t2_body (F := F) i arg2 harg2 arg3 harg3 arg4 harg4 arg5 harg5 arg7 harg7 arg6 harg6 arg9 harg9 arg8 harg8
        arg10 arg11 arg12 arg13 v13 v2 c0 c1 t1) := by
  have hb : ∀ (t : Fin k0_t3_loop.trips) (a : Unit), k0_t3_body (F := F) i arg2 harg2 arg3 harg3 arg4 harg4 arg5 harg5 arg6 harg6 arg7 harg7 arg8 harg8 arg9 harg9
        arg10 arg11 arg12 arg13 v13 t a
      = k0_t2_body (F := F) i arg2 harg2 arg3 harg3 arg4 harg4 arg5 harg5 arg7 harg7 arg6 harg6 arg9 harg9 arg8 harg8
        arg10 arg11 arg12 arg13 v13 v2 c0 c1 t1 t a := by
    intro t a
    unfold k0_t3_body k0_t2_body
    rw [k0_part1_eq_skeleton, k0_part2_eq_skeleton]
    unfold k0_part1_skel k0_part2_skel
    rfl
  exact congrArg (fun b => Scf.for k0_t2_loop.lb k0_t2_loop.ub k0_t2_loop.st k0_t2_ok ⟨⟩ b) (funext fun t => funext fun a => hb t a)

end Cert.Proof.Permute

end
-- ==== Proof.Chunks.lean ====
/-
  One trip of the chunk loop: the next chunks start on their way in, the two blocks that are in get
  gathered, and start on their way out.
-/
module

public import proofs.«01_k».proof.Proof.Moves
public import proofs.«01_k».proof.Proof.Trip

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight Flight_mono MayWaits)

variable {F : FTy → Type}

local notation "𝕄" => MT nD τ sig (HIx 1) (Elt F) ℕ UU ℕ

/-! ## Where the chunks are, and which guards hold -/

/-- The first of the 64 chunks of the tile at grid coordinates `i`. -/
def first (i : grid0.Coords) : ℕ := 64 * (2 * (i 1).val + (i 0).val)

/-- Offsets at equal rows are equal. -/
theorem off_congr {a b : ℕ} (h : a = b) : (![a, 0] : Fin 2 → ℕ) = ![b, 0] := by rw [h]

/-- The second chunk of a trip starts at row `8 * (first i + (2 * t + 1))`; -/
theorem off2_at (i : grid0.Coords) (t : Fin k0_t1_loop.trips) : k0_off2 i t = ![8 * (first i + (2 * t.val + 1)), 0] :=
  (k0_off2_eq i t).trans (off_congr (by unfold first; omega))
/-- the first at row `8 * (first i + 2 * t)`; -/
theorem off3_at (i : grid0.Coords) (t : Fin k0_t1_loop.trips) : k0_off3 i t = ![8 * (first i + 2 * t.val), 0] :=
  (k0_off3_eq i t).trans (off_congr (by unfold first; omega))
/-- the one read ahead for the next trip at row `8 * (first i + 2 * (t + 1))`; -/
theorem off14_at (i : grid0.Coords) (t : Fin k0_t1_loop.trips) : k0_off14 i t = ![8 * (first i + 2 * (t.val + 1)), 0] :=
  (k0_off14_eq i t).trans (off_congr (by unfold first; omega))
/-- and the second, once more, where it is waited for. -/
theorem off15_at (i : grid0.Coords) (t : Fin k0_t1_loop.trips) : k0_off15 i t = ![8 * (first i + (2 * t.val + 1)), 0] :=
  (k0_off15_eq i t).trans (off_congr (by unfold first; omega))

/-- Every trip has a second chunk to bring in; -/
theorem cond1_all : ∀ t : Fin k0_t1_loop.trips, k0_cond1 t = 1#1 := by decide +kernel
/-- every trip but the first waits for the blocks sent out the trip before, -/
theorem cond2_iff : ∀ t : Fin k0_t1_loop.trips, k0_cond2 t = 1#1 ↔ t.val ≠ 0 := by decide +kernel
/-- The second output buffer is waited for from the second trip on. -/
theorem cond4_iff : ∀ t : Fin k0_t1_loop.trips, k0_cond4 t = 1#1 ↔ t.val ≠ 0 := by decide +kernel
/-- and every trip but the last brings in the next trip's first chunk. -/
theorem cond3_iff : ∀ t : Fin k0_t1_loop.trips, k0_cond3 t = 1#1 ↔ t.val + 1 < 32 := by decide +kernel

/-! ## Chunks taken from and joined to a run of chunks -/

/-- A run of `n + 1` is its last beside the run of `n`. -/
theorem sep_range_succ (n : ℕ) (Φ : ℕ → sProp 𝕄) : bigSep (Finset.range (n + 1)) Φ = iprop(Φ n ∗ bigSep (Finset.range n) Φ) := by
  rw [Finset.range_add_one, SparseCore.bigSep_insert' Finset.notMem_range_self]

/-- A stretch is its first beside the rest. -/
theorem sep_Ico_head {a b : ℕ} (h : a < b) (Φ : ℕ → sProp 𝕄) :
    bigSep (Finset.Ico a b) Φ = iprop(Φ a ∗ bigSep (Finset.Ico (a + 1) b) Φ) := by
  rw [← SparseCore.bigSep_insert' (i := a) (by simp)]
  congr 1
  ext j
  simp only [Finset.mem_insert, Finset.mem_Ico]
  omega

variable (m : (ℓ : Loc nD τ sig) → Buf (Elt F) ℓ)
variable [FloatOps F]

/-! ## The state between trips -/

/-- The first incoming block before trip `k`: chunk `2 * k` on its way, or, past the last trip, free. -/
def inSlot (d : Dev nD) (i : grid0.Coords) (b : Memref sig .scVector .vmem S8x2048 .f32) (sem : DmaSem sig) (k : ℕ) : sProp 𝕄 :=
  if k < 32 then Flight EC (thr d i) (.dma sem) none b.view.dmaCredit iprop(holds d i b (blk m d (first i + 2 * k)) ∗ xck m d (first i + 2 * k))
  else iprop(free d i b ∗ semVal (thr d i, SemLoc.dma sem) 0)

/-- An outgoing block before trip `k`: free, or, past the first trip, on its way to chunk `n`. -/
def outSlot (d : Dev nD) (i : grid0.Coords) (b : Memref sig .scVector .vmem S8x2048 .f32) (sem : DmaSem sig) (n k : ℕ) : sProp 𝕄 :=
  if k = 0 then iprop(free d i b ∗ semVal (thr d i, SemLoc.dma sem) 0)
  else Flight EC (thr d i) (.dma sem) none NO iprop(gck m d n ∗ free d i b)

/-- The chunk the outgoing block's wait gives back: none in the first trip. -/
def gDone (d : Dev nD) (n k : ℕ) : sProp 𝕄 := if k = 0 then iprop(emp) else gck m d n

/-- The permutation's table in tile memory. -/
def table (d : Dev nD) (i : grid0.Coords) : sProp 𝕄 :=
  iprop(∃ ft, ⌜tV.view.read (Elt F) ft = m (pLoc d)⌝ ∗ (tV.view.loc (thr d i) ↦[Finset.univ]{fullShare} ft))

/-! ## Guarded steps -/

/-- A guarded step whose two ways go on alike: what the step makes of `P`, `P` already gives where the guard fails. -/
theorem wp_guard {γ : Type} (d : Dev nD) (i : grid0.Coords) {c : Prop} [Decidable c] {A : c → Prog (TpuEff nD τ sig (Elt F) Λ₀ (thr d i).2) γ}
    {J : Prog (TpuEff nD τ sig (Elt F) Λ₀ (thr d i).2) γ} {Q : γ → sProp 𝕄} (P R : sProp 𝕄)
    (h1 : ∀ h : c, P ⊢ iprop((R -∗ wp frame (wpE (defs₀ (F := F)) 𝒱₀ (thr d i) none) Set.univ J Q)
      -∗ wp frame (wpE (defs₀ (F := F)) 𝒱₀ (thr d i) none) Set.univ (A h) Q))
    (h2 : ¬ c → P ⊢ R) :
    P ⊢ iprop((R -∗ wp frame (wpE (defs₀ (F := F)) 𝒱₀ (thr d i) none) Set.univ J Q)
      -∗ wp frame (wpE (defs₀ (F := F)) 𝒱₀ (thr d i) none) Set.univ (dite c A fun _ => J) Q) := by
  by_cases h : c
  · rw [dif_pos h]; exact h1 h
  · rw [dif_neg h]
    iintro HP Hk
    iapply Hk
    iapply (h2 h) $$ HP

/-- The wait for an outgoing block, done in every trip but the first. -/
theorem wait_out {γ : Type} (d : Dev nD) (i : grid0.Coords) (b : Memref sig .scVector .vmem S8x2048 .f32) (sem : DmaSem sig) (n k : ℕ)
    {O : CellTallies nD τ sig (HIx 1)} {W : Waits sig (HIx 1)} {c : Prop} [Decidable c] (hc : c ↔ k ≠ 0)
    {off : c → Fin 2 → ℕ} {inb : ∀ h a, off h a + S8x2048.size a ≤ S16384x2048.size a}
    {hsl : ∀ h a, (Rect.unit (s := S16384x2048) (off h) S8x2048.size (inb h)).stride a = 1}
    {hdst : ∀ h, (oV.slice (Rect.unit (s := S16384x2048) (off h) S8x2048.size (inb h)) (hsl h)).view.WordExact} {hsrc : c → b.view.WordExact}
    {J : Prog (TpuEff nD τ sig (Elt F) Λ₀ (thr d i).2) γ} {Q : γ → sProp 𝕄} :
    iprop(outSlot m d i b sem n k ∗ ow d i O W ∗ MayWaits (thr d i) none O)
      ⊢ iprop((iprop(free d i b ∗ semVal (thr d i, SemLoc.dma sem) 0 ∗ gDone m d n k ∗ ow d i O W)
            -∗ wp frame (wpE (defs₀ (F := F)) 𝒱₀ (thr d i) none) Set.univ J Q)
        -∗ wp frame (wpE (defs₀ (F := F)) 𝒱₀ (thr d i) none) Set.univ
          (dite c (fun h => .op (.waitDma2 sem b (oV.slice (Rect.unit (s := S16384x2048) (off h) S8x2048.size (inb h)) (hsl h)) (hsrc h) (hdst h)) fun _ => J)
            fun _ => J) Q) := by
  refine wp_guard d i _ _ (fun h => ?_) (fun h => ?_)
  · have hk := hc.mp h
    unfold outSlot gDone
    rw [if_neg hk, if_neg hk]
    iintro HP Hk
    iapply (wait_step d i sem (N := NO) (Dl := iprop(gck m d n ∗ free d i b)) (O := O) (W := W) (srcw := b)
      (dstw := oV.slice (Rect.unit (s := S16384x2048) (off h) S8x2048.size (inb h)) (hsl h)) (hsrc := hsrc h) (hdst := hdst h) rfl (k := fun _ => J)) $$ HP
    iintro ⟨Hg, Hb⟩ Hv HO
    iapply Hk
    isplitl [Hb]; · iassumption
    isplitl [Hv]; · iassumption
    isplitl [Hg] <;> iassumption
  · have hk : k = 0 := by by_contra hk; exact h (hc.mpr hk)
    unfold outSlot gDone
    rw [if_pos hk, if_pos hk]
    iintro ⟨⟨Hb, Hv⟩, HO, -⟩
    isplitl [Hb]; · iassumption
    isplitl [Hv]; · iassumption
    isplitr; · iempintro
    iassumption

/-- The next trip's first chunk, started in every trip but the last. -/
theorem next_in {γ : Type} (d : Dev nD) (i : grid0.Coords) (b : Memref sig .scVector .vmem S8x2048 .f32) (sem : DmaSem sig) (k : ℕ) (hk : k < 32)
    {c : Prop} [Decidable c] (hc : c ↔ k + 1 < 32)
    {off : c → Fin 2 → ℕ} (hoff : ∀ h, off h = ![8 * (first i + 2 * (k + 1)), 0]) {inb : ∀ h a, off h a + S8x2048.size a ≤ S16384x2048.size a}
    {hsl : ∀ h a, (Rect.unit (s := S16384x2048) (off h) S8x2048.size (inb h)).stride a = 1}
    {hsrc : ∀ h, (xV.slice (Rect.unit (s := S16384x2048) (off h) S8x2048.size (inb h)) (hsl h)).view.WordExact} {hdst : c → b.view.WordExact}
    {hsem : c → DmaTarget.Typed (nD := nD) (p := (thr d i).2) Space.hbm (.dma sem) (.here b)}
    {J : Prog (TpuEff nD τ sig (Elt F) Λ₀ (thr d i).2) γ} {Q : γ → sProp 𝕄} :
    iprop(free d i b ∗ semVal (thr d i, SemLoc.dma sem) 0 ∗ bigSep (Finset.Ico (2 * k + 2) 64) (fun q => xck m d (first i + q)))
      ⊢ iprop((iprop(inSlot m d i b sem (k + 1) ∗ bigSep (Finset.Ico (2 * k + 3) 64) (fun q => xck m d (first i + q)))
            -∗ wp frame (wpE (defs₀ (F := F)) 𝒱₀ (thr d i) none) Set.univ J Q)
        -∗ wp frame (wpE (defs₀ (F := F)) 𝒱₀ (thr d i) none) Set.univ
          (dite c (fun h => .op (.enqueueDma (xV.slice (Rect.unit (s := S16384x2048) (off h) S8x2048.size (inb h)) (hsl h)) (.here b) (.dma sem) (hsrc h) (hdst h) (hsem h)) fun _ => J)
            fun _ => J) Q) := by
  refine wp_guard d i _ _ (fun h => ?_) (fun h => ?_)
  · have hk' := hc.mp h
    unfold inSlot
    rw [if_pos hk', sep_Ico_head (a := 2 * k + 2) (by omega)]
    iintro ⟨Hb, Hv, Hx, Hxs⟩ Hk
    iapply (issue_in m d i b sem (first i + 2 * (k + 1)) (hoff h)) $$ [Hb Hv Hx]
    · isplitl [Hx]; · iassumption
      isplitl [Hb] <;> iassumption
    iintro HF
    iapply Hk
    isplitl [HF]; · iassumption
    iassumption
  · have hk' : ¬ k + 1 < 32 := fun h' => h (hc.mpr h')
    unfold inSlot
    rw [if_neg hk', show Finset.Ico (2 * k + 2) 64 = (∅ : Finset ℕ) from Finset.Ico_eq_empty (by omega),
      show Finset.Ico (2 * k + 3) 64 = (∅ : Finset ℕ) from Finset.Ico_eq_empty (by omega)]
    iintro ⟨Hb, Hv, Hx⟩
    isplitl [Hb Hv]
    · isplitl [Hb] <;> iassumption
    iassumption

end Cert.Proof.Permute

end
-- ==== Proof.Outer.lean ====
/-
  One trip of the chunk loop, in two halves: the first block's and the second's.
-/
module

public import proofs.«01_k».proof.Proof.Chunks

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight Flight_mono MayWaits)

variable {F : FTy → Type}

local notation "𝕄" => MT nD τ sig (HIx 1) (Elt F) ℕ UU ℕ

variable (m : (ℓ : Loc nD τ sig) → Buf (Elt F) ℓ)
variable [FloatOps F]

theorem inSlot_lt (d : Dev nD) (i : grid0.Coords) (b : Memref sig .scVector .vmem S8x2048 .f32) (sem : DmaSem sig) {k : ℕ} (hk : k < 32) :
    inSlot m d i b sem k = Flight EC (thr d i) (.dma sem) none b.view.dmaCredit
      iprop(holds d i b (blk m d (first i + 2 * k)) ∗ xck m d (first i + 2 * k)) := by
  unfold inSlot; rw [if_pos hk]

/-- The block gathered by a column loop, from the block that is in. -/
theorem gather_block {γ : Type} (hpre : PreOK m) (d : Dev nD) (i : grid0.Coords)
    (a6 a7 a8 a9 : Memref sig .scVector .vmem S8x2048 .f32) (h6 : a6.IsWhole) (h7 : a7.IsWhole) (h8 : a8.IsWhole) (h9 : a9.IsWhole)
    (s10 s11 s12 s13 s0 : DmaSems sig S_) (v2 c0 c1 : BitVec 32) (t1 : Fin k0_t1_loop.trips) (n : ℕ)
    {k : Unit → Prog (TpuEff nD τ sig (Elt F) Λ₀ (thr d i).2) γ} {Q : γ → sProp 𝕄} :
    iprop(table m d i ∗ holds d i a6 (blk m d n) ∗ free d i a8)
      ⊢ iprop((iprop(table m d i ∗ free d i a6 ∗ holds d i a8 (gat (blk m d n) (m (pLoc d))))
            -∗ wp frame (wpE (defs₀ (F := F)) 𝒱₀ (thr d i) none) Set.univ (k ⟨⟩) Q)
        -∗ wp frame (wpE (defs₀ (F := F)) 𝒱₀ (thr d i) none) Set.univ
            (Scf.Loop.for k0_t2_loop k0_t2_ok ⟨⟩ (k0_t2_body i xV (Memref.isWhole_whole _) pV (Memref.isWhole_whole _) oV (Memref.isWhole_whole _)
              tV (Memref.isWhole_whole _) a6 h6 a7 h7 a8 h8 a9 h9 s10 s11 s12 s13 s0 v2 c0 c1 t1) >>= k) Q) := by
  unfold table holds free
  iintro ⟨⟨%ft, %hft, Ht⟩, ⟨%fin, %hfin, Hs⟩, Hd⟩ Hk
  iapply (loop2 d i xV (Memref.isWhole_whole _) pV (Memref.isWhole_whole _) oV (Memref.isWhole_whole _)
    tV (Memref.isWhole_whole _) a6 h6 a7 h7 a8 h8 a9 h9 s10 s11 s12 s13 s0 v2 c0 c1 t1 ft fin (by rw [hft]; exact hpre d)) $$ [Ht Hs Hd]
  · isplitl [Ht]; · iassumption
    isplitl [Hs] <;> iassumption
  iintro %f' %hf' Ht Hs Hd
  iapply Hk
  isplitl [Ht]
  · iexists ft; isplitr; · ipureintro; exact hft
    iassumption
  isplitl [Hs]
  · iexists fin; iassumption
  iexists f'; isplitr
  · ipureintro; rw [hf', hfin, hft]
  iassumption

/-- Waiting for a chunk of `x` that is on its way in. -/
theorem wait_in {γ : Type} (d : Dev nD) (i : grid0.Coords) (b : Memref sig .scVector .vmem S8x2048 .f32) (sem : DmaSem sig) (n n' : ℕ)
    {O : CellTallies nD τ sig (HIx 1)} {W : Waits sig (HIx 1)} {off : Fin 2 → ℕ} (hoff : off = ![8 * n', 0])
    {inb : ∀ a, off a + S8x2048.size a ≤ S16384x2048.size a}
    {hsl : ∀ a, (Rect.unit (s := S16384x2048) off S8x2048.size inb).stride a = 1}
    {hsrc : (xV.slice (Rect.unit (s := S16384x2048) off S8x2048.size inb) hsl).view.WordExact} {hdst : b.view.WordExact}
    {k : PUnit → Prog (TpuEff nD τ sig (Elt F) Λ₀ (thr d i).2) γ} {Q : γ → sProp 𝕄} :
    iprop(Flight EC (thr d i) (.dma sem) none b.view.dmaCredit iprop(holds d i b (blk m d n) ∗ xck m d n) ∗ ow d i O W ∗ MayWaits (thr d i) none O)
      ⊢ iprop((iprop(holds d i b (blk m d n) ∗ xck m d n ∗ semVal (thr d i, SemLoc.dma sem) 0 ∗ ow d i O W)
          -∗ wp frame (wpE (defs₀ (F := F)) 𝒱₀ (thr d i) none) Set.univ (k ⟨⟩) Q)
        -∗ wp frame (wpE (defs₀ (F := F)) 𝒱₀ (thr d i) none) Set.univ
          (.op (.waitDma2 sem (xV.slice (Rect.unit (s := S16384x2048) off S8x2048.size inb) hsl) b hsrc hdst) k) Q) := by
  iintro HP Hk
  iapply (wait_step d i sem (N := b.view.dmaCredit) (Dl := iprop(holds d i b (blk m d n) ∗ xck m d n)) (O := O) (W := W)
    (srcw := xV.slice (Rect.unit (s := S16384x2048) off S8x2048.size inb) hsl) (dstw := b) (hsrc := hsrc) (hdst := hdst) rfl (k := k)) $$ HP
  iintro ⟨Hb, Hx⟩ Hv HO
  iapply Hk
  isplitl [Hb]; · iassumption
  isplitl [Hx]; · iassumption
  isplitl [Hv] <;> iassumption

set_option maxHeartbeats 1000000 in
/-- The first half of a trip: the second chunk starts in, the first is waited for, gathered, and starts out; the next trip's
    first chunk starts in; the second is waited for. -/
theorem half1 (hpre : PreOK m) (d : Dev nD) (i : grid0.Coords)
    (s10 s11 s12 s13 s0 : DmaSems sig S_) (v2 c0 c1 : BitVec 32) (t1 : Fin k0_t1_loop.trips)
    {O : CellTallies nD τ sig (HIx 1)} {W : Waits sig (HIx 1)} {Q : BitVec 32 → sProp 𝕄} :
    iprop(table m d i ∗ MayWaits (thr d i) none O ∗ ow d i O W ∗ inSlot m d i in0 s10.sem t1.val
        ∗ free d i in1 ∗ semVal (thr d i, SemLoc.dma s11.sem) 0 ∗ outSlot m d i out0 s12.sem (first i + (2 * t1.val - 2)) t1.val
        ∗ bigSep (Finset.Ico (2 * t1.val + 1) 64) (fun q => xck m d (first i + q)) ∗ ock m d (first i + 2 * t1.val))
      ⊢ iprop((∀ v, iprop(table m d i ∗ ow d i O W ∗ inSlot m d i in0 s10.sem (t1.val + 1)
          ∗ holds d i in1 (blk m d (first i + (2 * t1.val + 1))) ∗ semVal (thr d i, SemLoc.dma s11.sem) 0
          ∗ Flight EC (thr d i) (.dma s12.sem) none NO iprop(gck m d (first i + 2 * t1.val) ∗ free d i out0)
          ∗ gDone m d (first i + (2 * t1.val - 2)) t1.val
          ∗ xck m d (first i + 2 * t1.val) ∗ xck m d (first i + (2 * t1.val + 1))
          ∗ bigSep (Finset.Ico (2 * t1.val + 3) 64) (fun q => xck m d (first i + q))) -∗ Q v)
        -∗ wp frame (wpE (defs₀ (F := F)) 𝒱₀ (thr d i) none) Set.univ
          (k0_part3 i xV (Memref.isWhole_whole _) pV (Memref.isWhole_whole _) oV (Memref.isWhole_whole _)
              tV (Memref.isWhole_whole _) in0 (Memref.isWhole_whole _) in1 (Memref.isWhole_whole _) out0 (Memref.isWhole_whole _) out1 (Memref.isWhole_whole _)
              s10 s11 s12 s13 s0 v2 c0 c1 t1) Q) := by
  have ht : t1.val < 32 := t1.isLt
  rw [k0_part3_eq_skeleton]
  unfold k0_part3_skel
  simp only [Prog.lift, Prog.bind_op, Prog.bind_ret, Prog.pure_eq_ret, Prog.bind_assoc]
  rw [dif_pos (cond1_all t1), sep_Ico_head (a := 2 * t1.val + 1) (by omega), inSlot_lt m d i in0 s10.sem ht]
  iintro ⟨Ht, #Hmw, HO, Hin, Hf1, Hv11, Hout, ⟨Hx1, Hxs⟩, Ho⟩ Hk
  iapply (issue_in m d i in1 s11.sem (first i + (2 * t1.val + 1)) (off2_at i t1)) $$ [Hx1 Hf1 Hv11]
  · isplitl [Hx1]; · iassumption
    isplitl [Hf1] <;> iassumption
  iintro HF1
  iapply (wait_in m d i in0 s10.sem (first i + 2 * t1.val) _ (O := O) (W := W) (off3_at i t1)) $$ [Hin HO]
  · isplitl [Hin]; · iassumption
    isplitl [HO] <;> iassumption
  iintro ⟨Hb0, Hx0, Hv10, HO⟩
  iapply (wait_out m d i out0 s12.sem (first i + (2 * t1.val - 2)) t1.val (O := O) (W := W) (cond2_iff t1)) $$ [Hout HO]
  · isplitl [Hout]; · iassumption
    isplitl [HO] <;> iassumption
  iintro ⟨Hfo, Hv12, Hg, HO⟩
  iapply (gather_block m hpre d i in0 in1 out0 out1 _ _ _ _ s10 s11 s12 s13 s0 v2 c0 c1 t1 (first i + 2 * t1.val)) $$ [Ht Hb0 Hfo]
  · isplitl [Ht]; · iassumption
    isplitl [Hb0] <;> iassumption
  iintro ⟨Ht, Hf0, Hbo⟩
  iapply (issue_out m d i out0 (View.set_whole _) s12.sem (first i + 2 * t1.val) (off3_at i t1)) $$ [Hbo Ho Hv12]
  · isplitl [Hbo]; · iassumption
    isplitl [Ho] <;> iassumption
  iintro HFo
  iapply (next_in m d i in0 s10.sem t1.val ht (cond3_iff t1) (fun _ => off14_at i t1)) $$ [Hf0 Hv10 Hxs]
  · isplitl [Hf0]; · iassumption
    isplitl [Hv10] <;> iassumption
  iintro ⟨Hin, Hxs⟩
  iapply (wait_in m d i in1 s11.sem (first i + (2 * t1.val + 1)) _ (O := O) (W := W) (off15_at i t1)) $$ [HF1 HO]
  · isplitl [HF1]; · iassumption
    isplitl [HO] <;> iassumption
  iintro ⟨Hb1, Hx1, Hv11, HO⟩
  rw [wp_ret]; imodintro
  iapply Hk
  isplitl [Ht]; · iassumption
  isplitl [HO]; · iassumption
  isplitl [Hin]; · iassumption
  isplitl [Hb1]; · iassumption
  isplitl [Hv11]; · iassumption
  isplitl [HFo]; · iassumption
  isplitl [Hg]; · iassumption
  isplitl [Hx0]; · iassumption
  isplitl [Hx1] <;> iassumption

/-- The chunks written, one trip on: the trip's two waits give back the two chunks of the trip before. -/
theorem written_succ (d : Dev nD) (i : grid0.Coords) (k : ℕ) :
    iprop(bigSep (Finset.range (2 * k - 2)) (fun q => gck m d (first i + q)) ∗ gDone m d (first i + (2 * k - 2)) k ∗ gDone m d (first i + (2 * k - 1)) k)
      ⊢ bigSep (Finset.range (2 * (k + 1) - 2)) (fun q => gck m d (first i + q)) := by
  unfold gDone
  rcases k with _ | k
  · rw [if_pos rfl]
    iintro ⟨H, -, -⟩
    iassumption
  · rw [if_neg (Nat.succ_ne_zero k), if_neg (Nat.succ_ne_zero k), show 2 * (k + 1) - 2 = 2 * k by omega, show 2 * (k + 1) - 1 = 2 * k + 1 by omega,
      show 2 * (k + 1 + 1) - 2 = 2 * k + 1 + 1 by omega, sep_range_succ, sep_range_succ]
    iintro ⟨H, H0, H1⟩
    isplitl [H1]; · iassumption
    isplitl [H0] <;> iassumption

/-- The state before trip `k` of the chunk loop: of the tile's 64 chunks, `2 * k` have been taken from `x`, and those of the
    trips before the last are written. -/
def loopInv (d : Dev nD) (i : grid0.Coords) (s10 s11 s12 s13 : DmaSem sig) (O : CellTallies nD τ sig (HIx 1)) (W : Waits sig (HIx 1))
    (k : ℕ) (_ : Unit) : sProp 𝕄 :=
  iprop(MayWaits (thr d i) none O ∗ table m d i ∗ ow d i O W ∗ inSlot m d i in0 s10 k
    ∗ free d i in1 ∗ semVal (thr d i, SemLoc.dma s11) 0
    ∗ outSlot m d i out0 s12 (first i + (2 * k - 2)) k ∗ outSlot m d i out1 s13 (first i + (2 * k - 1)) k
    ∗ bigSep (Finset.range (2 * k)) (fun q => xck m d (first i + q)) ∗ bigSep (Finset.Ico (2 * k + 1) 64) (fun q => xck m d (first i + q))
    ∗ bigSep (Finset.range (2 * k - 2)) (fun q => gck m d (first i + q)) ∗ bigSep (Finset.Ico (2 * k) 64) (fun q => ock m d (first i + q)))

theorem outSlot_succ (d : Dev nD) (i : grid0.Coords) (b : Memref sig .scVector .vmem S8x2048 .f32) (sem : DmaSem sig) (n k : ℕ) :
    outSlot m d i b sem n (k + 1) = Flight EC (thr d i) (.dma sem) none NO iprop(gck m d n ∗ free d i b) := by
  unfold outSlot; rw [if_neg (Nat.succ_ne_zero k)]

set_option maxHeartbeats 1000000 in
/-- One trip of the chunk loop. -/
theorem trip (hpre : PreOK m) (d : Dev nD) (i : grid0.Coords)
    (s10 s11 s12 s13 s0 : DmaSems sig S_) (v2 : BitVec 32)
    (O : CellTallies nD τ sig (HIx 1)) (W : Waits sig (HIx 1)) (t1 : Fin k0_t1_loop.trips) (acc : Unit) :
    loopInv m d i s10.sem s11.sem s12.sem s13.sem O W t1.val acc
      ⊢ wp frame (wpE (defs₀ (F := F)) 𝒱₀ (thr d i) none) Set.univ
          (k0_t1_body i xV (Memref.isWhole_whole _) pV (Memref.isWhole_whole _) oV (Memref.isWhole_whole _)
              tV (Memref.isWhole_whole _) in0 (Memref.isWhole_whole _) in1 (Memref.isWhole_whole _) out0 (Memref.isWhole_whole _) out1 (Memref.isWhole_whole _)
              s10 s11 s12 s13 s0 v2 t1 acc) (loopInv m d i s10.sem s11.sem s12.sem s13.sem O W (t1.val + 1)) := by
  have ht : t1.val < 32 := t1.isLt
  unfold loopInv k0_t1_body
  rw [outSlot_succ, outSlot_succ, show 2 * (t1.val + 1) - 1 = 2 * t1.val + 1 by omega,
    show first i + (2 * (t1.val + 1) - 2) = first i + 2 * t1.val by omega,
    show 2 * (t1.val + 1) + 1 = 2 * t1.val + 3 by omega,
    show Finset.range (2 * (t1.val + 1)) = Finset.range (2 * t1.val + 1 + 1) from rfl, sep_range_succ, sep_range_succ,
    show Finset.Ico (2 * (t1.val + 1)) 64 = Finset.Ico (2 * t1.val + 1 + 1) 64 from rfl,
    sep_Ico_head (a := 2 * t1.val) (b := 64) (by omega) (fun q => ock m d (first i + q)),
    sep_Ico_head (a := 2 * t1.val + 1) (b := 64) (by omega) (fun q => ock m d (first i + q))]
  simp only [Prog.lift, Prog.bind_op, Prog.bind_ret, Prog.pure_eq_ret, Prog.bind_assoc]
  rw [wp_bind]
  rw [loop3_eq i _ _ _ _ _ _ _ _ _ _ _ _ _ _ _ _ s10 s11 s12 s13 s0 v2 0#32 1#32 t1]
  iintro ⟨#Hmw, Ht, HO, Hin, Hf1, Hv11, Hout0, Hout1, Hxd, Hxs, Hgs, Ho0, Ho1, Hos⟩
  iapply (half1 m hpre d i s10 s11 s12 s13 s0 v2 0#32 1#32 t1 (O := O) (W := W)) $$ [Ht HO Hin Hf1 Hv11 Hout0 Hxs Ho0]
  · isplitl [Ht]; · iassumption
    isplitr; · iassumption
    isplitl [HO]; · iassumption
    isplitl [Hin]; · iassumption
    isplitl [Hf1]; · iassumption
    isplitl [Hv11]; · iassumption
    isplitl [Hout0]; · iassumption
    isplitl [Hxs] <;> iassumption
  iintro %v ⟨Ht, HO, Hin, Hb1, Hv11, HFo0, Hg0, Hx0, Hx1, Hxs⟩
  iapply (wait_out m d i out1 s13.sem (first i + (2 * t1.val - 1)) t1.val (O := O) (W := W) (cond4_iff t1)) $$ [Hout1 HO]
  · isplitl [Hout1]; · iassumption
    isplitl [HO] <;> iassumption
  iintro ⟨Hfo, Hv13, Hg1, HO⟩
  iapply (gather_block m hpre d i in1 in0 out1 out0 _ _ _ _ s10 s11 s12 s13 s0 v2 0#32 1#32 t1 (first i + (2 * t1.val + 1))) $$ [Ht Hb1 Hfo]
  · isplitl [Ht]; · iassumption
    isplitl [Hb1] <;> iassumption
  iintro ⟨Ht, Hf1, Hbo⟩
  iapply (issue_out m d i out1 (View.set_whole _) s13.sem (first i + (2 * t1.val + 1)) (off15_at i t1)) $$ [Hbo Ho1 Hv13]
  · isplitl [Hbo]; · iassumption
    isplitl [Ho1] <;> iassumption
  iintro HFo1
  rw [wp_ret]; imodintro
  isplitr; · iassumption
  isplitl [Ht]; · iassumption
  isplitl [HO]; · iassumption
  isplitl [Hin]; · iassumption
  isplitl [Hf1]; · iassumption
  isplitl [Hv11]; · iassumption
  isplitl [HFo0]; · iassumption
  isplitl [HFo1]; · iassumption
  isplitl [Hx0 Hx1 Hxd]
  · isplitl [Hx1]; · iassumption
    isplitl [Hx0] <;> iassumption
  isplitl [Hxs]; · iassumption
  isplitl [Hgs Hg0 Hg1]
  · iapply (written_succ m d i t1.val)
    isplitl [Hgs]; · iassumption
    isplitl [Hg0] <;> iassumption
  iassumption

end Cert.Proof.Permute

end
-- ==== Proof.Tile.lean ====
/-
  What one vector subcore does: the table in, the first chunk started, the loop of chunks, the two last waits.
-/
module

public import proofs.«01_k».proof.Proof.Outer

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight Flight_mono MayWaits wp_dmaLocal)

variable {F : FTy → Type}

local notation "𝕄" => MT nD τ sig (HIx 1) (Elt F) ℕ UU ℕ

variable (m : (ℓ : Loc nD τ sig) → Buf (Elt F) ℓ)
variable [FloatOps F]

/-- The table's share of one tile. -/
def pShare (d : Dev nD) (q : PosShare TreeShare) : sProp 𝕄 := iprop(pLoc d ↦[Finset.univ]{q} m (pLoc d))

/-- The permutation starts on its way into tile memory. -/
theorem issue_table {γ : Type} (d : Dev nD) (i : grid0.Coords) (sem : DmaSem sig) (q : PosShare TreeShare)
    {hsrc : pV.view.WordExact} {hdst : tV.view.WordExact}
    {hsem : DmaTarget.Typed (nD := nD) (p := (thr d i).2) Space.hbm (.dma sem) (.here tV)}
    {k : PUnit → Prog (TpuEff nD τ sig (Elt F) Λ₀ (thr d i).2) γ} {Q : γ → sProp 𝕄} :
    iprop(pShare m d q ∗ (∃ f, (tV.view.loc (thr d i) ↦[Finset.univ]{fullShare} f)) ∗ semVal (thr d i, SemLoc.dma sem) 0)
      ⊢ iprop((Flight EC (thr d i) (.dma sem) none tV.view.dmaCredit iprop(table m d i ∗ pShare m d q)
            -∗ wp frame (wpE (defs₀ (F := F)) 𝒱₀ (thr d i) none) Set.univ (k ⟨⟩) Q)
        -∗ wp frame (wpE (defs₀ (F := F)) 𝒱₀ (thr d i) none) Set.univ
            (.op (.enqueueDma pV (.here tV) (.dma sem) hsrc hdst hsem) k) Q) := by
  have hp : pShare m d q = iprop(pV.view.loc (thr d i) ↦[pV.view.set]{q} m (pLoc d)) := by
    unfold pShare
    rw [show pV.view.set = Finset.univ from View.set_whole _]
  rw [hp]
  iintro ⟨Hp, ⟨%f0, Hb⟩, Hv⟩ Hk
  iapply (wp_dmaLocal EC 𝒱₀ (thr d i) none (src := pV) (dst := tV) (sm := .dma sem)
    (q := q) (fs := m (pLoc d)) (Sd := Finset.univ) (fd := f0) none tV.view.dmaCredit rfl (View.dmaCredit_pos _ (show 0 < S2048.numel by decide)) (Finset.subset_univ _)) $$ [Hp Hb Hv]
  · isplitl [Hp]; · iassumption
    isplitl [Hb] <;> iassumption
  iintro HF
  iapply Hk
  iapply (Flight_mono EC (thr d i) ?_) $$ HF
  unfold table
  iintro ⟨Hb, Hp⟩
  isplitl [Hb]; rotate_left; · iassumption
  iexists _; isplitr; rotate_left; · iassumption
  ipureintro
  rw [View.read_write_univ]
  rfl

theorem off1_all : ∀ (a : Fin 2) (b : Fin 16),
    (Scalar.addi (Scalar.muli (Scalar.addi (Scalar.muli (BitVec.ofNat 32 b.val) 2#32) (BitVec.ofNat 32 a.val)) 512#32) 0#32).toNat
      = 8 * (64 * (2 * b.val + a.val)) := by decide +kernel

/-- The first chunk's rows. -/
theorem off1_at (i : grid0.Coords) : k0_off1 i 0#32 = ![8 * (first i + 2 * 0), 0] :=
  off_congr ((off1_all (i 0) (i 1)).trans (by unfold first; omega))

/-- What a tile is given: read evidence, its share of the table's source, its chunks of `x` and of the result, and its own
    memory and counters. -/
def tilePre (d : Dev nD) (i : grid0.Coords) (s10 s11 s12 s13 s0 : DmaSem sig) (q : PosShare TreeShare) (O : CellTallies nD τ sig (HIx 1))
    (W : Waits sig (HIx 1)) (Φ : ℕ → sProp 𝕄) : sProp 𝕄 :=
  iprop(ow d i O W ∗ pShare m d q ∗ bigSep (Finset.range 64) (fun n => xck m d (first i + n)) ∗ bigSep (Finset.range 64) (fun n => Φ (first i + n))
    ∗ (∃ f, (tV.view.loc (thr d i) ↦[Finset.univ]{fullShare} f)) ∗ free d i in0 ∗ free d i in1 ∗ free d i out0 ∗ free d i out1
    ∗ semVal (thr d i, SemLoc.dma s10) 0 ∗ semVal (thr d i, SemLoc.dma s11) 0 ∗ semVal (thr d i, SemLoc.dma s12) 0
    ∗ semVal (thr d i, SemLoc.dma s13) 0 ∗ semVal (thr d i, SemLoc.dma s0) 0)

/-- Before the first trip nothing is written and the first chunk is on its way. -/
theorem loopInv_zero (d : Dev nD) (i : grid0.Coords) (s10 s11 s12 s13 : DmaSem sig) (O : CellTallies nD τ sig (HIx 1)) (W : Waits sig (HIx 1)) (u : Unit) :
    iprop(MayWaits (thr d i) none O ∗ table m d i ∗ ow d i O W
      ∗ Flight EC (thr d i) (.dma s10) none in0.view.dmaCredit iprop(holds d i in0 (blk m d (first i + 2 * 0)) ∗ xck m d (first i + 2 * 0))
      ∗ free d i in1 ∗ semVal (thr d i, SemLoc.dma s11) 0
      ∗ iprop(free d i out0 ∗ semVal (thr d i, SemLoc.dma s12) 0) ∗ iprop(free d i out1 ∗ semVal (thr d i, SemLoc.dma s13) 0)
      ∗ bigSep (Finset.Ico (0 + 1) 64) (fun q => xck m d (first i + q)) ∗ bigSep (Finset.range 64) (fun q => ock m d (first i + q)))
    ⊢ loopInv m d i s10 s11 s12 s13 O W 0 u := by
  have h0 : ∀ b sem n, outSlot m d i b sem n 0 = iprop(free d i b ∗ semVal (thr d i, SemLoc.dma sem) 0) := fun b sem n => by
    unfold outSlot; rw [if_pos rfl]
  have he : ∀ Φ : ℕ → sProp 𝕄, bigSep (Finset.range 0) Φ = iprop(emp) := fun Φ => by rw [Finset.range_zero, bigSep_empty]; rfl
  unfold loopInv
  rw [h0, h0, inSlot_lt m d i in0 s10 (k := 0) (by omega), show Finset.Ico (2 * 0) 64 = Finset.range 64 by rw [Finset.range_eq_Ico],
    show 2 * 0 = 0 from rfl, show 0 - 2 = 0 from rfl, he, he]
  iintro ⟨Hmw, Ht, HO, HF, Hi1, Hv11, HS0, HS1, Hx, Hos⟩
  isplitl [Hmw]; · iassumption
  isplitl [Ht]; · iassumption
  isplitl [HO]; · iassumption
  isplitl [HF]; · iassumption
  isplitl [Hi1]; · iassumption
  isplitl [Hv11]; · iassumption
  isplitl [HS0]; · iassumption
  isplitl [HS1]; · iassumption
  isplitr; · iempintro
  isplitl [Hx]; · iassumption
  isplitr; · iempintro
  iassumption

/-- After the last trip all of `x` is back and all but the last two chunks are written. -/
theorem loopInv_last (d : Dev nD) (i : grid0.Coords) (s10 s11 s12 s13 : DmaSem sig) (O : CellTallies nD τ sig (HIx 1)) (W : Waits sig (HIx 1)) (u : Unit) :
    loopInv m d i s10 s11 s12 s13 O W (Scf.trips k0_t1_loop.lb k0_t1_loop.ub k0_t1_loop.st) u ⊢ iprop(table m d i ∗ ow d i O W
      ∗ free d i in0 ∗ semVal (thr d i, SemLoc.dma s10) 0
      ∗ free d i in1 ∗ semVal (thr d i, SemLoc.dma s11) 0
      ∗ Flight EC (thr d i) (.dma s12) none NO iprop(gck m d (first i + 62) ∗ free d i out0)
      ∗ Flight EC (thr d i) (.dma s13) none NO iprop(gck m d (first i + 63) ∗ free d i out1)
      ∗ bigSep (Finset.range 64) (fun q => xck m d (first i + q)) ∗ bigSep (Finset.range 62) (fun q => gck m d (first i + q))) := by
  have h0 : inSlot m d i in0 s10 32 = iprop(free d i in0 ∗ semVal (thr d i, SemLoc.dma s10) 0) := by
    unfold inSlot; rw [if_neg (by omega)]
  rw [show Scf.trips k0_t1_loop.lb k0_t1_loop.ub k0_t1_loop.st = 32 from rfl]
  unfold loopInv
  rw [h0, show (32 : ℕ) = 31 + 1 from rfl, outSlot_succ, outSlot_succ]
  iintro ⟨-, Ht, HO, ⟨Hi0, Hv10⟩, Hi1, Hv11, HF0, HF1, Hx, -, Hg, -⟩
  isplitl [Ht]; · iassumption
  isplitl [HO]; · iassumption
  isplitl [Hi0]; · iassumption
  isplitl [Hv10]; · iassumption
  isplitl [Hi1]; · iassumption
  isplitl [Hv11]; · iassumption
  isplitl [HF0]; · iassumption
  isplitl [HF1]; · iassumption
  isplitl [Hx] <;> iassumption

/-- The last two waits complete the tile's share of the result. -/
theorem written_last (d : Dev nD) (i : grid0.Coords) :
    iprop(gck m d (first i + 63) ∗ gck m d (first i + 62) ∗ bigSep (Finset.range 62) (fun q => gck m d (first i + q)))
      ⊢ bigSep (Finset.range 64) (fun q => gck m d (first i + q)) := by
  rw [show (64 : ℕ) = 62 + 1 + 1 from rfl, sep_range_succ (62 + 1), sep_range_succ 62]

set_option maxHeartbeats 1000000 in
/-- The kernel at one tile: from its chunks of the result as they are to its chunks of the result permuted. -/
theorem tile_run (hpre : PreOK m) (d : Dev nD) (i : grid0.Coords) (s10 s11 s12 s13 s0 : DmaSems sig S_) (q : PosShare TreeShare)
    (O : CellTallies nD τ sig (HIx 1)) (W : Waits sig (HIx 1)) :
    iprop(MayWaits (thr d i) none O ∗ tilePre m d i s10.sem s11.sem s12.sem s13.sem s0.sem q O W (ock m d))
      ⊢ wp frame (wpE (defs₀ (F := F)) 𝒱₀ (thr d i) none) Set.univ
          (cc0__permute_sc i xV (Memref.isWhole_whole _) pV (Memref.isWhole_whole _) oV (Memref.isWhole_whole _)
              tV (Memref.isWhole_whole _) in0 (Memref.isWhole_whole _) in1 (Memref.isWhole_whole _) out0 (Memref.isWhole_whole _) out1 (Memref.isWhole_whole _)
              s10 s11 s12 s13 s0) fun _ => tilePre m d i s10.sem s11.sem s12.sem s13.sem s0.sem q O W (gck m d) := by
  rw [cc0__permute_sc_eq_skeleton]
  unfold cc0__permute_sc_skel tilePre
  simp only [Prog.lift, Prog.bind_op, Prog.bind_ret, Prog.pure_eq_ret, Prog.bind_assoc]
  have hx0 : bigSep (Finset.range 64) (fun n => xck m d (first i + n))
      = iprop(xck m d (first i + 0) ∗ bigSep (Finset.Ico (0 + 1) 64) (fun n => xck m d (first i + n))) := by
    rw [Finset.range_eq_Ico, sep_Ico_head (a := 0) (b := 64) (by omega) (fun n => xck m d (first i + n))]
  rw [hx0]
  iintro ⟨#Hmw, HO, Hp, ⟨Hx, Hxs⟩, Hos, Ht, Hi0, Hi1, Ho0, Ho1, Hv10, Hv11, Hv12, Hv13, Hv0⟩
  iapply (issue_table m d i s0.sem q) $$ [Hp Ht Hv0]
  · isplitl [Hp]; · iassumption
    isplitl [Ht] <;> iassumption
  iintro HF
  iapply (wait_step d i s0.sem (N := tV.view.dmaCredit) (Dl := iprop(table m d i ∗ pShare m d q)) (O := O) (W := W) (srcw := pV) (dstw := tV)
    (hsrc := (Memref.isWhole_whole _).wordExact) (hdst := (Memref.isWhole_whole _).wordExact) rfl) $$ [HF HO]
  · isplitl [HF]; · iassumption
    isplitl [HO] <;> iassumption
  iintro ⟨Ht, Hp⟩ Hv0 HO
  iapply (issue_in m d i in0 s10.sem (first i + 2 * 0) (off1_at i)) $$ [Hx Hi0 Hv10]
  · isplitl [Hx]; · iassumption
    isplitl [Hi0] <;> iassumption
  iintro HF0
  iapply (Scf.wp_for_bind frame (wpE (defs₀ (F := F)) 𝒱₀ (thr d i) none) Set.univ _ _ _ k0_t1_ok ⟨⟩ _
    (loopInv m d i s10.sem s11.sem s12.sem s13.sem O W)
    (trip m hpre d i s10 s11 s12 s13 s0 _ O W)) $$ [HO Ht Hxs Hos Hi1 Ho0 Ho1 Hv11 Hv12 Hv13 HF0]
  · iapply (loopInv_zero m d i s10.sem s11.sem s12.sem s13.sem O W ⟨⟩)
    isplitr; · iassumption
    isplitl [Ht]; · iassumption
    isplitl [HO]; · iassumption
    isplitl [HF0]; · iassumption
    isplitl [Hi1]; · iassumption
    isplitl [Hv11]; · iassumption
    isplitl [Ho0 Hv12]; · isplitl [Ho0] <;> iassumption
    isplitl [Ho1 Hv13]; · isplitl [Ho1] <;> iassumption
    isplitl [Hxs] <;> iassumption
  iintro %acc HI
  ihave HI' := (loopInv_last m d i s10.sem s11.sem s12.sem s13.sem O W acc) $$ HI
  icases HI' with ⟨Ht, HO, Hi0, Hv10, Hi1, Hv11, HF0, HF1, Hx, Hg⟩
  iapply (wait_step d i s12.sem (N := NO) (Dl := iprop(gck m d (first i + 62) ∗ free d i out0)) (O := O) (W := W) (srcw := out0)
    (dstw := oV.slice (Rect.unit (s := S16384x2048) (k0_off1 i 496#32) S8x2048.size (k0_off1_inb i 1)) (fun _ => rfl))
    (hsrc := (Memref.isWhole_whole _).wordExact) (hdst := View.wordExact_bits rfl) rfl) $$ [HF0 HO]
  · isplitl [HF0]; · iassumption
    isplitl [HO] <;> iassumption
  iintro ⟨Hg0, Ho0⟩ Hv12 HO
  iapply (wait_step d i s13.sem (N := NO) (Dl := iprop(gck m d (first i + 63) ∗ free d i out1)) (O := O) (W := W) (srcw := out1)
    (dstw := oV.slice (Rect.unit (s := S16384x2048) (k0_off1 i 504#32) S8x2048.size (k0_off1_inb i 2)) (fun _ => rfl))
    (hsrc := (Memref.isWhole_whole _).wordExact) (hdst := View.wordExact_bits rfl) rfl) $$ [HF1 HO]
  · isplitl [HF1]; · iassumption
    isplitl [HO] <;> iassumption
  iintro ⟨Hg1, Ho1⟩ Hv13 HO
  rw [wp_ret]; imodintro
  isplitl [HO]; · iassumption
  isplitl [Hp]; · iassumption
  isplitl [Hx]
  · iapply (Entails.of_eq hx0) $$ Hx
  isplitl [Hg Hg0 Hg1]
  · iapply (written_last m d i)
    isplitl [Hg1]; · iassumption
    isplitl [Hg0] <;> iassumption
  isplitl [Ht]
  · unfold table
    icases Ht with ⟨%ft, -, Ht⟩
    iexists ft; iassumption
  isplitl [Hi0]; · iassumption
  isplitl [Hi1]; · iassumption
  isplitl [Ho0]; · iassumption
  isplitl [Ho1]; · iassumption
  isplitl [Hv10]; · iassumption
  isplitl [Hv11]; · iassumption
  isplitl [Hv12]; · iassumption
  isplitl [Hv13] <;> iassumption

end Cert.Proof.Permute

end
-- ==== Proof.Task.lean ====
/-
  The task of one vector subcore as the launch sees it: its own memory and counters taken from what the subcore owns, the
  run of the kernel on them, and all of it put back.
-/
module

public import proofs.«01_k».proof.Proof.Tile

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight Flight_mono MayWaits wp_dmaLocal shareTokN)

variable {F : FTy → Type}

local notation "𝕄" => MT nD τ sig (HIx 1) (Elt F) ℕ UU ℕ

variable (m : (ℓ : Loc nD τ sig) → Buf (Elt F) ℓ)
variable [FloatOps F]

/-- What worker `w` of the 32 is handed and hands back: a read share of `p`, its 64 chunks of `x`, and its 64 chunks of the
    result as `Φ` has them. -/
def share (d : Dev nD) (Φ : ℕ → sProp 𝕄) (w : ℕ) : sProp 𝕄 :=
  iprop(pShare m d (shareTokN fullShare w) ∗ bigSep (Finset.range 64) (fun n => xck m d (64 * w + n))
    ∗ bigSep (Finset.range 64) (fun n => Φ (64 * w + n)))

section Own

variable (d : Dev nD) (i : grid0.Coords)

/-- The counter of a transfer semaphore at the tile. -/
abbrev cell (s : DmaSem sig) : GSem nD τ sig := (thr d i, .dma s)

theorem cell_ne {s s' : DmaSem sig} (h : s ≠ s') : cell d i s ≠ cell d i s' := fun e => h (SemLoc.dma.inj (Prod.mk.inj e).2)

theorem cell_mem {s : DmaSem sig} (h : (SemLoc.dma s : SemLoc sig).isScoped .scVector = true) : cell d i s ∈ ownCells (thr d i) :=
  (mem_ownCells (g := cell d i s)).mpr ⟨rfl, h⟩

/-- The tile's counters: its five transfer semaphores', and the rest. -/
theorem ownSems0_V :
    (ownSems0 (thr d i) : sProp 𝕄)
      = iprop(semVal (cell d i cc0_scratch5.sem) 0 ∗ semVal (cell d i cc0_scratch6.sem) 0 ∗ semVal (cell d i cc0_scratch7.sem) 0
          ∗ semVal (cell d i cc0_scratch8.sem) 0 ∗ semVal (cell d i cc0_scoped0.sem) 0
          ∗ bigSep ((((((ownCells (thr d i)).erase (cell d i cc0_scratch5.sem)).erase (cell d i cc0_scratch6.sem)).erase (cell d i cc0_scratch7.sem)).erase
              (cell d i cc0_scratch8.sem)).erase (cell d i cc0_scoped0.sem)) fun g => semVal g 0) := by
  unfold SparseCore.Cfg.ownSems0
  have h5 := cell_mem d i (s := cc0_scratch5.sem) (by decide)
  have h6 := cell_mem d i (s := cc0_scratch6.sem) (by decide)
  have h7 := cell_mem d i (s := cc0_scratch7.sem) (by decide)
  have h8 := cell_mem d i (s := cc0_scratch8.sem) (by decide)
  have h0 := cell_mem d i (s := cc0_scoped0.sem) (by decide)
  rw [SparseCore.bigSep_erase' h5,
    SparseCore.bigSep_erase' (Finset.mem_erase.mpr ⟨cell_ne d i (by decide), h6⟩),
    SparseCore.bigSep_erase' (Finset.mem_erase.mpr ⟨cell_ne d i (by decide), Finset.mem_erase.mpr ⟨cell_ne d i (by decide), h7⟩⟩),
    SparseCore.bigSep_erase' (Finset.mem_erase.mpr ⟨cell_ne d i (by decide), Finset.mem_erase.mpr ⟨cell_ne d i (by decide),
      Finset.mem_erase.mpr ⟨cell_ne d i (by decide), h8⟩⟩⟩),
    SparseCore.bigSep_erase' (Finset.mem_erase.mpr ⟨cell_ne d i (by decide), Finset.mem_erase.mpr ⟨cell_ne d i (by decide),
      Finset.mem_erase.mpr ⟨cell_ne d i (by decide), Finset.mem_erase.mpr ⟨cell_ne d i (by decide), h0⟩⟩⟩⟩)]

/-- A buffer of the tile among all buffers. -/
abbrev bref (b : Ref sig .scVector) : DevRef τ sig := (Proc.scVector ((i 0).castLE hcore0) ((i 1).castLE hsub0)).devRef b

theorem bref_ne {b b' : Ref sig .scVector} (h : b ≠ b') : bref i b ≠ bref i b' := fun e => h (Proc.devRef_injective _ e)

theorem bref_mem {b : Ref sig .scVector} (h : (bref i b).owner = .proc (Proc.scVector ((i 0).castLE hcore0) ((i 1).castLE hsub0))) :
    bref i b ∈ ownRefs (τ := τ) (.scVector ((i 0).castLE hcore0) ((i 1).castLE hsub0)) :=
  SparseCore.Cfg.mem_ownRefs_of_owner (p := Proc.scVector ((i 0).castLE hcore0) ((i 1).castLE hsub0)) (b := bref i b) h

/-- The tile's buffers: the table, the four blocks, and the rest. -/
theorem ownBufs_V :
    (ownBufs (thr d i) : sProp 𝕄)
      = iprop((∃ f, (tV.view.loc (thr d i) ↦[Finset.univ]{fullShare} f)) ∗ free d i in0 ∗ free d i in1 ∗ free d i out0 ∗ free d i out1
          ∗ bigSep ((((((ownRefs (τ := τ) (.scVector ((i 0).castLE hcore0) ((i 1).castLE hsub0))).erase (bref i cc0_scratch0)).erase (bref i cc0_scratch1)).erase
              (bref i cc0_scratch2)).erase (bref i cc0_scratch3)).erase (bref i cc0_scratch4)) fun b => iprop(∃ f, ((d, b) : Loc nD τ sig) ↦{fullShare} f)) := by
  unfold SparseCore.Cfg.ownBufs
  have h0 := bref_mem i (b := cc0_scratch0) rfl
  have h1 := bref_mem i (b := cc0_scratch1) rfl
  have h2 := bref_mem i (b := cc0_scratch2) rfl
  have h3 := bref_mem i (b := cc0_scratch3) rfl
  have h4 := bref_mem i (b := cc0_scratch4) rfl
  refine (SparseCore.bigSep_erase' h0).trans ?_
  rw [SparseCore.bigSep_erase' (Finset.mem_erase.mpr ⟨bref_ne i (by decide), h1⟩),
    SparseCore.bigSep_erase' (Finset.mem_erase.mpr ⟨bref_ne i (by decide), Finset.mem_erase.mpr ⟨bref_ne i (by decide), h2⟩⟩),
    SparseCore.bigSep_erase' (Finset.mem_erase.mpr ⟨bref_ne i (by decide), Finset.mem_erase.mpr ⟨bref_ne i (by decide),
      Finset.mem_erase.mpr ⟨bref_ne i (by decide), h3⟩⟩⟩),
    SparseCore.bigSep_erase' (Finset.mem_erase.mpr ⟨bref_ne i (by decide), Finset.mem_erase.mpr ⟨bref_ne i (by decide),
      Finset.mem_erase.mpr ⟨bref_ne i (by decide), Finset.mem_erase.mpr ⟨bref_ne i (by decide), h4⟩⟩⟩⟩)]
  rfl

set_option maxHeartbeats 1000000 in
/-- The task: from the worker's share of the arrays to the same with its part of the result written. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ share m d (ock m d) (2 * (i 1).val + (i 0).val)
        ∗ scopedBufs (thr d i) ∗ scopedSems0 (thr d i) ∗ owes (thr d i) O W)
      ⊢ wp frame (wpE (defs₀ (F := F)) 𝒱₀ (thr d i) none) Set.univ
          (cc0__permute_sc i xV (Memref.isWhole_whole _) pV (Memref.isWhole_whole _) oV (Memref.isWhole_whole _)
              tV (Memref.isWhole_whole _) in0 (Memref.isWhole_whole _) in1 (Memref.isWhole_whole _) out0 (Memref.isWhole_whole _) out1 (Memref.isWhole_whole _)
              cc0_scratch5 cc0_scratch6 cc0_scratch7 cc0_scratch8 cc0_scoped0)
          fun _ => iprop(share m d (gck m d) (2 * (i 1).val + (i 0).val) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_V, ownBufs_V]
  have hrun := tile_run m hpre d i cc0_scratch5 cc0_scratch6 cc0_scratch7 cc0_scratch8 cc0_scoped0 (shareTokN fullShare (2 * (i 1).val + (i 0).val)) O W
  unfold tilePre first at hrun
  unfold share
  iintro ⟨#Hlv, -, ⟨Hp, Hx, Ho⟩, ⟨Ht, Hi0, Hi1, Ho0, Ho1, Hbufs⟩, ⟨Hs5, Hs6, Hs7, Hs8, Hs0, Hsems⟩, HO⟩
  ihave Hmw := (show levAts (K (F := F)).L (K (F := F)).lev ⊢ MayWaits (thr d i) none O from
    (K (F := F)).mayWaits_none (thr := thr d i) hO) $$ Hlv
  iapply (wp_wand frame _ _) $$ [Hmw HO Hp Hx Ho Ht Hi0 Hi1 Ho0 Ho1 Hs5 Hs6 Hs7 Hs8 Hs0]
  · iapply hrun
    isplitl [Hmw]; · iassumption
    isplitl [HO]
    · unfold ow
      iexists W; isplitr
      · ipureintro; exact fun p hp => .inl hp
      iassumption
    isplitl [Hp]; · iassumption
    isplitl [Hx]; · iassumption
    isplitl [Ho]; · iassumption
    isplitl [Ht]; · iassumption
    isplitl [Hi0]; · iassumption
    isplitl [Hi1]; · iassumption
    isplitl [Ho0]; · iassumption
    isplitl [Ho1]; · iassumption
    isplitl [Hs5]; · iassumption
    isplitl [Hs6]; · iassumption
    isplitl [Hs7]; · iassumption
    isplitl [Hs8] <;> iassumption
  iintro %u ⟨HO, Hp, Hx, Ho, Ht, Hi0, Hi1, Ho0, Ho1, Hs5, Hs6, Hs7, Hs8, Hs0⟩
  isplitl [Hp Hx Ho]
  · isplitl [Hp]; · iassumption
    isplitl [Hx] <;> iassumption
  isplitl [Ht Hi0 Hi1 Ho0 Ho1 Hbufs]
  · isplitl [Ht]; · iassumption
    isplitl [Hi0]; · iassumption
    isplitl [Hi1]; · iassumption
    isplitl [Ho0]; · iassumption
    isplitl [Ho1] <;> iassumption
  isplitl [Hs5 Hs6 Hs7 Hs8 Hs0 Hsems]
  · isplitl [Hs5]; · iassumption
    isplitl [Hs6]; · iassumption
    isplitl [Hs7]; · iassumption
    isplitl [Hs8]; · iassumption
    isplitl [Hs0] <;> iassumption
  unfold ow
  icases HO with ⟨%W', %hW', HO⟩
  iexists W'; isplitr
  · ipureintro; exact fun p hp => (hW' p hp).imp_right Or.inl
  iassumption

end Own

end Cert.Proof.Permute

end
-- ==== Proof.Split.lean ====
/-
  The whole arrays dealt to the 32 workers and collected from them.
-/
module

public import proofs.«01_k».proof.Proof.Task

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (shareTokN shareDrop pointsTo_toks_range)

variable {F : FTy → Type}

local notation "𝕄" => MT nD τ sig (HIx 1) (Elt F) ℕ UU ℕ

variable (m : (ℓ : Loc nD τ sig) → Buf (Elt F) ℓ)

/-! ## A run of indices in equal stretches -/

/-- Two parts in either order. -/
theorem sep_swap (A B : sProp 𝕄) : iprop(A ∗ B) = iprop(B ∗ A) := BI.equiv_iff.mp ⟨BI.sep_comm, BI.sep_comm⟩

/-- The first two of three parts in either order. -/
theorem sep_swap_head (A B C : sProp 𝕄) : iprop(A ∗ B ∗ C) ⊢ iprop(B ∗ A ∗ C) := by
  iintro ⟨HA, HB, HC⟩
  isplitl [HB]; · iassumption
  isplitl [HA] <;> iassumption

/-- Nothing beside a part is that part. -/
theorem sep_emp_right (A : sProp 𝕄) : iprop(A ∗ emp) = A := by
  have h1 : iprop(A ∗ emp) ⊢ A := by
    iintro ⟨H, -⟩
    iassumption
  have h2 : A ⊢ iprop(A ∗ emp) := by
    iintro H
    isplitl [H]; · iassumption
    iempintro
  exact BI.equiv_iff.mp ⟨h1, h2⟩

/-- A run of `a + b` is a run of `a` beside the run of `b` that follows it. -/
theorem sep_range_add (a b : ℕ) (Φ : ℕ → sProp 𝕄) :
    bigSep (Finset.range (a + b)) Φ = iprop(bigSep (Finset.range a) Φ ∗ bigSep (Finset.range b) fun n => Φ (a + n)) := by
  induction b with
  | zero =>
    rw [Nat.add_zero, Finset.range_zero, bigSep_empty]
    exact (sep_emp_right _).symm
  | succ b ih =>
    rw [← Nat.add_assoc, sep_range_succ, ih, sep_range_succ]
    exact BI.equiv_iff.mp ⟨sep_swap_head _ _ _, sep_swap_head _ _ _⟩

/-- `k` stretches of 64. -/
theorem sep_stretches (k : ℕ) (Φ : ℕ → sProp 𝕄) :
    bigSep (Finset.range (64 * k)) Φ = bigSep (Finset.range k) fun w => bigSep (Finset.range 64) fun n => Φ (64 * w + n) := by
  induction k with
  | zero => rw [Nat.mul_zero, Finset.range_zero, bigSep_empty, bigSep_empty]
  | succ k ih =>
    rw [Nat.mul_succ, sep_range_add, ih, sep_range_succ k]
    exact sep_swap _ _

/-! ## The matrices in chunks -/

/-- Different chunks share no element, -/
theorem ck_disjoint : ∀ a ∈ Finset.range (64 * 32), ∀ b ∈ Finset.range (64 * 32), a ≠ b → Disjoint (ck a) (ck b) := by
  intro a _ b _ hab
  rw [Finset.disjoint_left]
  intro j ha hb
  exact hab ((Finset.mem_filter.mp ha).2.symm.trans (Finset.mem_filter.mp hb).2)

/-- and the 2048 of them are the whole matrix. -/
theorem ck_cover : (Finset.range (64 * 32)).biUnion ck = Finset.univ := by
  ext j
  have h : (j 0).val < 16384 := (j 0).isLt
  simp only [Finset.mem_biUnion, Finset.mem_range, Finset.mem_univ, iff_true]
  exact ⟨(j 0).val / 8, by omega, Finset.mem_filter.mpr ⟨Finset.mem_univ _, rfl⟩⟩

/-- `x` whole is its chunks, 64 to a worker; -/
theorem x_chunks (d : Dev nD) :
    (xLoc d ↦{fullShare} m (xLoc d) : sProp 𝕄) = bigSep (Finset.range 32) fun w => bigSep (Finset.range 64) fun n => xck m d (64 * w + n) := by
  rw [← sep_stretches]
  unfold xck
  rw [← pointsTo_biUnion (Finset.range (64 * 32)) (ℓ := xLoc d) ck ck_disjoint, ck_cover]
/-- so is the result as it is at launch, -/
theorem o_chunks (d : Dev nD) :
    (oLoc d ↦{fullShare} m (oLoc d) : sProp 𝕄) = bigSep (Finset.range 32) fun w => bigSep (Finset.range 64) fun n => ock m d (64 * w + n) := by
  rw [← sep_stretches]
  unfold ock
  rw [← pointsTo_biUnion (Finset.range (64 * 32)) (ℓ := oLoc d) ck ck_disjoint, ck_cover]
/-- and as it is to be. -/
theorem g_chunks (d : Dev nD) :
    (oLoc d ↦{fullShare} G m d : sProp 𝕄) = bigSep (Finset.range 32) fun w => bigSep (Finset.range 64) fun n => gck m d (64 * w + n) := by
  rw [← sep_stretches]
  unfold gck
  rw [← pointsTo_biUnion (Finset.range (64 * 32)) (ℓ := oLoc d) ck ck_disjoint, ck_cover]

/-! ## The workers -/

/-- Worker `2 * s + c` sits on core `c`, subcore `s`. -/
def worker : Fin 2 × Fin 16 ↪ ℕ :=
  ⟨fun a => 2 * a.2.val + a.1.val, fun a b h => by
    have h : 2 * a.2.val + a.1.val = 2 * b.2.val + b.1.val := h
    have ha := a.1.isLt
    have hb := b.1.isLt
    exact Prod.ext (Fin.ext (by omega)) (Fin.ext (by omega))⟩

/-- The workers are numbered 0 to 31. -/
theorem worker_map : (Finset.univ : Finset (Fin 2 × Fin 16)).map worker = Finset.range 32 := by decide +kernel

/-- Core by core and subcore by subcore is worker by worker. -/
theorem sep_workers (Φ : ℕ → sProp 𝕄) :
    (bigSep Finset.univ fun c : Fin 2 => bigSep Finset.univ fun s : Fin 16 => Φ (2 * s.val + c.val)) = bigSep (Finset.range 32) Φ := by
  rw [← worker_map, bigSep_map, bigSep_univ_prod]
  rfl

variable [FloatOps F]

/-- What the workers hold together, from the arrays' pieces. -/
theorem shares_eq (d : Dev nD) (Φ : ℕ → sProp 𝕄) :
    bigSep (Finset.range 32) (share m d Φ)
      = iprop((bigSep (Finset.range 32) fun w => pShare m d (shareTokN fullShare w))
        ∗ (bigSep (Finset.range 32) fun w => bigSep (Finset.range 64) fun n => xck m d (64 * w + n))
        ∗ bigSep (Finset.range 32) fun w => bigSep (Finset.range 64) fun n => Φ (64 * w + n)) := by
  unfold share
  rw [bigSep_sep', bigSep_sep']

/-- What is kept of `p` while the workers read it. -/
def pKept (d : Dev nD) : sProp 𝕄 := pShare m d (shareDrop fullShare 32)

/-- The arrays dealt out. -/
theorem deal (d : Dev nD) :
    iprop((xLoc d ↦{fullShare} m (xLoc d)) ∗ (pLoc d ↦{fullShare} m (pLoc d)) ∗ (oLoc d ↦{fullShare} m (oLoc d)))
      ⊢ iprop(pKept m d ∗ bigSep (Finset.range 32) (share m d (ock m d))) := by
  rw [shares_eq, x_chunks, o_chunks]
  iintro ⟨Hx, Hp, Ho⟩
  ihave Hp' := (pointsTo_toks_range (ℓ := pLoc d) (S := Finset.univ) (f := m (pLoc d)) fullShare 32).1 $$ Hp
  icases Hp' with ⟨Hk, Hp⟩
  unfold pKept pShare
  isplitl [Hk]; · iassumption
  isplitl [Hp]; · iassumption
  isplitl [Hx] <;> iassumption

/-- The arrays collected, the result written. -/
theorem collect (d : Dev nD) :
    iprop(pKept m d ∗ bigSep (Finset.range 32) (share m d (gck m d)))
      ⊢ iprop((xLoc d ↦{fullShare} m (xLoc d)) ∗ (pLoc d ↦{fullShare} m (pLoc d)) ∗ (oLoc d ↦{fullShare} G m d)) := by
  rw [shares_eq, x_chunks, g_chunks]
  unfold pKept pShare
  iintro ⟨Hk, Hp, Hx, Ho⟩
  isplitl [Hx]; · iassumption
  isplitl [Hk Hp]
  · iapply (pointsTo_toks_range (ℓ := pLoc d) (S := Finset.univ) (f := m (pLoc d)) fullShare 32).2
    isplitl [Hk] <;> iassumption
  iassumption

end Cert.Proof.Permute

end
-- ==== Proof.Launch.lean ====
/-
  The launch: what the call hands each core and each subcore, @main on the TensorCore, and the run of the whole program.
-/
module

public import proofs.«01_k».proof.Proof.Task
public import proofs.«01_k».proof.Proof.Split

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (shareTokN shareDrop pointsTo_toks_range)

variable {F : FTy → Type}

local notation "𝕄" => MT nD τ sig (HIx 1) (Elt F) ℕ UU ℕ

variable (m : (ℓ : Loc nD τ sig) → Buf (Elt F) ℓ)

variable (ρ : Dev nD → PrngReg)
variable [FloatOps F]

/-! ## What the call hands over -/

/-- The shares of core `c`'s subcores, their parts of the result being `Φ`. -/
@[irreducible] def coreShare (d : Dev nD) (Φ : ℕ → sProp 𝕄) (c : ℕ) : sProp 𝕄 := bigSep Finset.univ fun i : Fin 16 => share m d Φ (2 * i.val + c)

/-- Each subcore is handed its worker's share and hands it back with the result written; a core, its subcores' shares. -/
def P : (K (F := F)).Pay (nD := nD) (Val := Elt F) (Name := ℕ) (U := UU) where
  st := fun _ d c => coreShare m d (ock m d) c.val
  dn := fun _ d c => coreShare m d (gck m d) c.val
  go := fun _ d c i => share m d (ock m d) (2 * i.val + c.val)
  td := fun _ d c i => share m d (gck m d) (2 * i.val + c.val)
  x := fun _ _ => iprop(emp)

/-- Everything the call hands over may be kept in an invariant. -/
instance xck_storable (d : Dev nD) (n : ℕ) : BI.Storable (upEmb : UEmb _ 𝕄) (xck m d n) := by unfold xck; infer_instance
instance ock_storable (d : Dev nD) (n : ℕ) : BI.Storable (upEmb : UEmb _ 𝕄) (ock m d n) := by unfold ock; infer_instance
instance gck_storable (d : Dev nD) (n : ℕ) : BI.Storable (upEmb : UEmb _ 𝕄) (gck m d n) := by unfold gck; infer_instance
instance pShare_storable (d : Dev nD) (q : PosShare TreeShare) : BI.Storable (upEmb : UEmb _ 𝕄) (pShare m d q) := by unfold pShare; infer_instance
instance share_ock_storable (d : Dev nD) (w : ℕ) : BI.Storable (upEmb : UEmb _ 𝕄) (share m d (ock m d) w) := by unfold share; infer_instance
instance share_gck_storable (d : Dev nD) (w : ℕ) : BI.Storable (upEmb : UEmb _ 𝕄) (share m d (gck m d) w) := by unfold share; infer_instance

instance core_ock_storable (d : Dev nD) (c : ℕ) : BI.Storable (upEmb : UEmb _ 𝕄) (coreShare m d (ock m d) c) := by unfold coreShare; infer_instance
instance core_gck_storable (d : Dev nD) (c : ℕ) : BI.Storable (upEmb : UEmb _ 𝕄) (coreShare m d (gck m d) c) := by unfold coreShare; infer_instance

instance P_storable : (P (F := F) m).IsStorable where
  st _ d c := by unfold P; infer_instance
  dn _ d c := by unfold P; infer_instance
  go _ d c i := by unfold P; infer_instance
  td _ d c i := by unfold P; infer_instance

/-! ## The launch's obligations -/

/-- The grid's point at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a subcore runs for call 0: the task at its point of the grid. -/
theorem defs₀_vector (c : Fin τ.nSC) (s : Fin τ.nSub) :
    defs₀ (F := F) (.scVector c s) 0 ()
      = SparseCore.onTile hcore0 hsub0 (fun c s => cc0__permute_sc (coordsV c s)
          xV (Memref.isWhole_whole _) pV (Memref.isWhole_whole _) oV (Memref.isWhole_whole _)
          tV (Memref.isWhole_whole _) in0 (Memref.isWhole_whole _) in1 (Memref.isWhole_whole _) out0 (Memref.isWhole_whole _) out1 (Memref.isWhole_whole _)
          cc0_scratch5 cc0_scratch6 cc0_scratch7 cc0_scratch8 cc0_scoped0) ⟨⟩ c s := rfl

/-- Every subcore runs its task. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

/-- A core's part is its subcores' shares. -/
theorem core_tasks (d : Dev nD) (Φ : ℕ → sProp 𝕄) (c : ℕ) :
    (bigSep Finset.univ fun i : Fin ((K (F := F)).nSub 0) => share m d Φ (2 * i.val + c)) = coreShare m d Φ c := by
  unfold coreShare
  rfl

/-- The split of a core's part among its subcores, and back. -/
theorem vecSplit : (K (F := F)).VecSplit' (P m) 0 := by
  intro d c
  show coreShare m d (ock m d) c.val ⊢ |={Set.univ}=> iprop(
      (bigSep Finset.univ fun i : Fin ((K (F := F)).nSub 0) => share m d (ock m d) (2 * i.val + c.val))
      ∗ ((bigSep Finset.univ fun i : Fin ((K (F := F)).nSub 0) => share m d (gck m d) (2 * i.val + c.val)) -∗ coreShare m d (gck m d) c.val))
  rw [core_tasks, core_tasks]
  iintro H; imodintro
  isplitl [H]; · iexact H
  iintro H; iexact H

/-- The launch's own state: the handshakes' rounds. -/
def u₀ : UU := (initOf (K (F := F)).hsCells (K (F := F)).hsToks, 1)

/-- Nothing, however many times, is nothing. -/
theorem sep_emp_all {I : Type} (s : Finset I) : (bigSep s fun _ => iprop(emp)) = (iprop(emp) : sProp 𝕄) := bigSep_emp_const s

/-- From the launch's own state: the handshakes' rounds, and nothing further for anyone. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [sep_emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), sep_emp_all]
  iempintro

/-! ## @main on the TensorCore -/

/-- The buffers @main holds at launch: the arguments and the results. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (pLoc d ↦{fullShare} W main_arg1) ∗ (oLoc d ↦{fullShare} W main_v0) ∗ zLoc d ↦{fullShare} W main_c) := by
  unfold unscopedBufs
  rw [show (Finset.univ.filter fun b : Ref sig .tc => ¬ b.isScoped) = {main_arg0, main_arg1, main_v0, main_c} by decide,
    SparseCore.bigSep_insert' (by decide), SparseCore.bigSep_insert' (by decide), SparseCore.bigSep_insert' (by decide), bigSep_singleton]

/-- The two cores' parts are the 32 workers' shares; -/
theorem cores_eq (d : Dev nD) (Φ : ℕ → sProp 𝕄) :
    (bigSep (Finset.univ : Finset (Fin 2)) fun c => coreShare m d Φ c.val) = bigSep (Finset.range 32) (share m d Φ) := by
  unfold coreShare
  exact sep_workers (share m d Φ)
/-- so it is for what the call takes, -/
theorem st0_eq (d : Dev nD) :
    (bigSep Finset.univ fun c : Fin ((K (F := F)).nCore 0) => (P m).st 0 d c) = bigSep (Finset.range 32) (share m d (ock m d)) := by
  unfold P
  exact cores_eq m d _
/-- and for what it hands back. -/
theorem dn0_eq (d : Dev nD) :
    (bigSep Finset.univ fun c : Fin ((K (F := F)).nCore 0) => (P m).dn 0 d c) = bigSep (Finset.range 32) (share m d (gck m d)) := by
  unfold P
  exact cores_eq m d _

/-- The second result's buffer, and the operation that writes its constant. -/
abbrev zRef : DevRef τ sig := Proc.devRef .tc (main_c : Ref sig .tc)
/-- The operation. -/
abbrev opZ : HloOp τ sig (Elt F) := StableHlo.nullary main_c (constantI S_ 32 0#32)
/-- The value of the second result. -/
def Z (d : Dev nD) : Buf (Elt F) (zLoc d) := (constantI S_ 32 0#32 : S_.Idx → BitVec 32)

/-- The buffers at launch. -/
def V0 (d : Dev nD) : Valuation τ sig (Elt F) := fun b => m (d, b)

/-- Holding the second result's buffer, as the rule for host operations says it. -/
theorem held_z (d : Dev nD) (W : Valuation τ sig (Elt F)) : (held (T d) {zRef} W : sProp 𝕄) = (zLoc d ↦{fullShare} W zRef) := by
  unfold held
  rw [bigSep_singleton]

/-- The operation leaves the constant. -/
theorem opZ_result (d : Dev nD) : ((opZ (F := F)).result (V0 m d) zRef : Buf (Elt F) (zLoc d)) = Z d := StableHlo.nullary_result _ _ _ _

/-- What @main leaves: the arguments as they were, the two results. -/
abbrev FIN (d : Dev nD) : sProp 𝕄 :=
  iprop((xLoc d ↦{fullShare} m (xLoc d)) ∗ (pLoc d ↦{fullShare} m (pLoc d)) ∗ (oLoc d ↦{fullShare} G m d) ∗ (zLoc d ↦{fullShare} Z d))

/-- @main: the arrays are dealt to the workers, the call runs, the arrays are collected with the result written, and the
    second result is set. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hp, Ho, Hz⟩, Hts, -⟩, -⟩
  ihave Hd := (deal m d) $$ [Hx Hp Ho]
  · isplitl [Hx]; · iassumption
    isplitl [Hp] <;> iassumption
  icases Hd with ⟨Hk, Hsh⟩
  iapply ((K (F := F)).wp_run (D (F := F)) 𝒱 (EH := EH) (P := P m) κ d 0) $$ [Hst Hsh Hk Hz Hb Hts]
  isplitr; · iexact Hctx
  isplitl [Hst]; · iexact Hst
  isplitl [Hsh]
  · rw [st0_eq]; iexact Hsh
  iintro ⟨Hst, Hdn⟩
  ihave Hdn' := (Entails.of_eq (dn0_eq m d)) $$ Hdn
  ihave Hc := (collect m d) $$ [Hk Hdn']
  · isplitl [Hk] <;> iassumption
  icases Hc with ⟨Hx, Hp, Ho⟩
  iapply (wp_hlo_within 𝒱 (SparseCore.T d) none Set.univ (op := opZ) (S := {zRef}) (Finset.Subset.refl _) (V := V0 m d)) $$ [Hb Hz]
  · isplitl [Hb]; · iexact Hb
    rw [held_z]; iexact Hz
  iintro ⟨Hb, Hz⟩
  ihave Hz' := (Entails.of_eq ((held_z d _).trans (congrArg (fun f => (zLoc d ↦{fullShare} f : sProp 𝕄)) (opZ_result m d)))) $$ Hz
  rw [wp_ret]; imodintro; imodintro
  isplitl [Hst]; · iexact Hst
  isplitr [Hb Hts]
  · isplitl [Hx]; · iexact Hx
    isplitl [Hp]; · iexact Hp
    isplitl [Ho]; · iexact Ho
    iexact Hz'
  isplitl [Hb] <;> iassumption

/-- What the final memory shows. -/
def fq (d : Dev nD) (s' : Phys nD τ sig (Elt F)) : Prop :=
  s'.mem.mem (xLoc d) = m (xLoc d) ∧ s'.mem.mem (pLoc d) = m (pLoc d) ∧ s'.mem.mem (oLoc d) = G m d ∧ s'.mem.mem (zLoc d) = Z d

/-- The final memory agrees with what @main leaves. -/
theorem hfin (d : Dev nD) (s' : Phys nD τ sig (Elt F)) : iprop(FIN m d ∗ SI s') ⊢ (⌜fq m d s'⌝ : sProp 𝕄) := by
  iintro ⟨⟨Hx, Hp, Ho, Hz⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := oLoc d) (I := Finset.univ) (q := fullShare) (f := G m d))) $$ [HSI Ho]
  · isplitl [HSI] <;> iassumption
  icases H with ⟨%ho, HSI, -⟩
  ihave H := (SI_pointsTo_agree (st := s') (ℓ := zLoc d) (I := Finset.univ) (q := fullShare) (f := Z d)) $$ [HSI Hz]
  · isplitl [HSI] <;> iassumption
  icases H with %hz
  ipureintro
  exact ⟨funext fun i => hx i (Finset.mem_univ i), funext fun i => hp i (Finset.mem_univ i), funext fun i => ho i (Finset.mem_univ i),
    funext fun i => hz i (Finset.mem_univ i)⟩

/-! ## The run -/

/-- The run's result: arguments unchanged, results at their values, counters at zero. -/
def QC : PUnit × MemSt nD τ sig (Elt F) → Prop := fun r =>
  (∀ c : Dev nD, r.2.mem (xLoc c) = m (xLoc c) ∧ r.2.mem (pLoc c) = m (pLoc c) ∧ r.2.mem (oLoc c) = G m c ∧ r.2.mem (zLoc c) = Z c)
    ∧ r.2.sem = fun _ => 0

/-- The program runs, over any float values: the arguments end unchanged, the first result is `x` with its columns taken at
    `p`'s entries, the second the constant zero, and every counter is at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Permute

end
-- ==== Proof.Ref.lean ====
/-
  What the reference computes: `jnp.take` along the columns, with its wrapping of negative entries and its fill of entries out of
  range, is on a permutation whose entries all name columns the plain gather; and what the precondition says of `p`.
-/
module

public import proofs.«01_k».proof.Proof.Base
public import proofs.«01_k».proof.Proof.Gen.ReferenceIdeal.Run
public import proofs.«01_k».proof.Proof.Gen.Pre_p_in_range
public import Idealize.ShloMosaic.Lib.ReduceAll
public import Idealize.ShloMosaic.Lib.WordCmp

@[expose] public section

noncomputable section

namespace Cert.Proof.Reference

open Cert.ReferenceIdeal Cert.ReferenceIdeal.Gen Idealize.ShloMosaic Idealize.SL.Sem
open Cert.Proof.Permute (col)

/-! ## The precondition -/

/-- A word that is at least 0 and below 2048 as a signed number is below 2048 as a natural. -/
theorem nat_of_signed (v : BitVec 32) (h0 : (0#32 : BitVec 32).toInt ≤ v.toInt) (h1 : v.toInt < (2048#32 : BitVec 32).toInt) : v.toNat < 2048 := by
  rw [show (0#32 : BitVec 32).toInt = 0 from rfl] at h0
  rw [show (2048#32 : BitVec 32).toInt = 2048 from rfl] at h1
  rw [BitVec.toInt_eq_toNat_cond] at h0 h1
  have := v.isLt
  split at h0 <;> omega

/-- An array of rank 0 has one index. -/
instance one_index : Subsingleton Cert.Pre_p_in_range.S_.Idx := ⟨fun _ _ => funext fun a => a.elim0⟩

/-- Where the precondition's predicate is one, every entry of `p` is below 2048. -/
theorem entry_lt {F : FTy → Type} [FloatOps F] (x : FVec F S16384x2048 .f32) (p : IVec S2048 32)
    (h : Cert.Pre_p_in_range.fn x p = fun _ => 1#1) (j : S2048.Idx) : (p j).toNat < 2048 := by
  have e := Host.reduce_andi_all _ _ _ _ _ (congrFun h (fun a => a.elim0)) j
  obtain ⟨h0, h1⟩ := IntOp.andi_eq_one.1 e
  exact nat_of_signed _ (IntOp.cmpi_sge.1 h0) (IntOp.cmpi_slt.1 h1)

/-! ## The entries -/

/-- A word below 2048 is its own value as a signed number. -/
theorem signed_of_nat (v : BitVec 32) (h : v.toNat < 2048) : v.toInt = v.toNat := by
  rw [BitVec.toInt_eq_toNat_cond, if_pos (by omega)]

/-- `p` after the wrapping of negative entries. -/
abbrev wrapped (p : IVec S2048 32) : IVec S2048 32 :=
  select (cmpi .slt p (broadcastInDim S2048 ![] bcast_S_S2048 (constantI S_ 32 0#32)))
    (addi p (broadcastInDim S2048 ![] bcast_S_S2048 (constantI S_ 32 2048#32))) p

/-- On entries that name columns the wrapping changes nothing. -/
theorem wrapped_eq (p : IVec S2048 32) (hp : ∀ j, (p j).toNat < 2048) : wrapped p = p := by
  funext j
  refine if_neg fun h => ?_
  have h' := IntOp.cmpi_slt.1 h
  rw [signed_of_nat _ (hp j)] at h'
  have h'' : ((p j).toNat : ℤ) < 0 := h'
  omega

/-- `p` as the column of start positions the gather takes. -/
abbrev starts (p : IVec S2048 32) : IVec S2048x1 32 := broadcastInDim S2048x1 ![0] bcast_S2048_S2048x1_0 p

/-- Start position `y` is entry `y` of `p`. -/
theorem starts_apply (p : IVec S2048 32) (y : S2048x1.Idx) : starts p y = p (ix1 (n0 := 2048) (y 0)) := by
  refine congrArg p (funext fun a => ?_)
  obtain rfl : a = 0 := Subsingleton.elim _ _
  rfl

/-- Which entries are in range: a word of one bit for each. -/
abbrev inRange (p : IVec S2048 32) : IVec S2048x1 1 :=
  andi (cmpi .sge (starts p) (broadcastInDim S2048x1 ![] bcast_S_S2048x1 (constantI S_ 32 0#32)))
    (cmpi .sle (starts p) (broadcastInDim S2048x1 ![0, 1] bcast_S1x1_S2048x1_0_1 (broadcastInDim S1x1 ![1] bcast_S1_S1x1_1 (constantI S1 32 2047#32))))

/-- All of them are, where every entry of `p` names a column. -/
theorem inRange_one (p : IVec S2048 32) (hp : ∀ j, (p j).toNat < 2048) (y : S2048x1.Idx) : inRange p y = 1#1 := by
  have hy := hp (ix1 (n0 := 2048) (y 0))
  rw [← starts_apply p y] at hy
  refine IntOp.andi_eq_one.2 ⟨IntOp.cmpi_sge.2 ?_, IntOp.cmpi_sle.2 ?_⟩
  · rw [signed_of_nat _ hy]
    exact Int.natCast_nonneg _
  · rw [signed_of_nat _ hy]
    show ((starts p y).toNat : ℤ) ≤ 2047
    omega

/-! ## The gather -/

/-- The gather of whole columns: entry `(i, j)` is the operand at row `i` and the column start position `j` names. -/
theorem gather_cols {α : Type} (x : S16384x2048.Idx → α) (idx : IVec S2048x1 32) (i : S16384x2048.Idx) (k : Fin 2048)
    (hk : (idx (ix2 (n0 := 2048) (n1 := 1) (i 1) 0)).toInt = k.val) :
    Host.gather gather_S16384x2048_S2048x1_S16384x2048_0_1_n_n_1_1_163841 x idx i = x (ix2 (n0 := 16384) (n1 := 2048) (i 0) k) := by
  refine congrArg x (funext fun a => Fin.ext ?_)
  match a with
  | ⟨0, _⟩ =>
    show GatherDims.start _ i idx 0 + GatherDims.batchCoord _ i 0 + GatherDims.offCoord _ i 0 = (i 0).val
    rw [GatherDims.batchCoord_eq_zero _ _ _ List.not_mem_nil]
    have h0 : GatherDims.start gather_S16384x2048_S2048x1_S16384x2048_0_1_n_n_1_1_163841 i idx 0 = 0 := dif_neg (by decide)
    rw [h0]
    show 0 + 0 + (i 0).val = _
    omega
  | ⟨1, _⟩ =>
    show GatherDims.start gather_S16384x2048_S2048x1_S16384x2048_0_1_n_n_1_1_163841 i idx 1 + GatherDims.batchCoord _ i 1 + GatherDims.offCoord _ i 1 = k.val
    rw [GatherDims.batchCoord_eq_zero _ _ _ List.not_mem_nil, GatherDims.offCoord_eq_zero _ _ _ (by decide)]
    have hs : GatherDims.start gather_S16384x2048_S2048x1_S16384x2048_0_1_n_n_1_1_163841 i idx 1
        = min (idx (ix2 (n0 := 2048) (n1 := 1) (i 1) 0)).toInt.toNat (2048 - 1) := by
      unfold GatherDims.start
      rw [dif_pos (by decide)]
      refine congrArg (fun y => min (idx y).toInt.toNat (2048 - 1)) (funext fun b => Fin.ext ?_)
      match b with
      | ⟨0, _⟩ => rfl
      | ⟨1, _⟩ => rfl
    rw [hs, hk]
    have := k.isLt
    show min ((k.val : ℤ)).toNat (2048 - 1) + 0 + 0 = k.val
    rw [Int.toNat_natCast]
    omega

/-! ## The result -/

variable {F : FTy → Type} [FloatOps F]

/-- The reference's first result as its operations compose it. -/
abbrev taken (x : FVec F S16384x2048 .f32) (p : IVec S2048 32) : FVec F S16384x2048 .f32 :=
  select (broadcastInDim S16384x2048 ![1] bcast_S2048_S16384x2048_1
      (Host.reduce IntOp.andi (inRange (wrapped p)) (constantI S_ 1 1#1) reducesTo_S2048x1_S2048_d1 h_S_))
    (Host.gather gather_S16384x2048_S2048x1_S16384x2048_0_1_n_n_1_1_163841 x (starts (wrapped p)))
    (broadcastInDim S16384x2048 ![] bcast_S_S16384x2048 (constant S_ .f32 0x7FC00000#32))

/-- On entries that all name columns it is `x` with its columns taken at them. -/
theorem taken_eq (x : FVec F S16384x2048 .f32) (p : IVec S2048 32) (hp : ∀ j, (p j).toNat < 2048) (i : S16384x2048.Idx) :
    taken x p i = x (ix2 (n0 := 16384) (n1 := 2048) (i 0) (col p (i 1))) := by
  unfold taken
  rw [wrapped_eq p hp]
  refine (if_pos ?_).trans (gather_cols x _ i _ ?_)
  · exact Host.reduce_andi_one _ _ _ _ _ rfl (inRange_one p hp)
  · rw [starts_apply, signed_of_nat _ (hp _)]
    exact congrArg Nat.cast (Nat.mod_eq_of_lt (hp _)).symm

end Cert.Proof.Reference

end
-- ==== Proof.lean ====
/-
  The certificate: the kernel's run (Proof/Launch.lean) and the reference's (Proof/Ref.lean) read at what each claim states.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_p_in_range
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem

/-- The kernel, over float words, runs to the end, leaves its arguments unchanged and every counter at zero. -/
theorem frame_kernel : Cert.quiescent_Kernel := fun m ρ hpre =>
  (θ_run (Cert.KernelIdeal.defs (F := Bits)) _ _).mono (fun _ h => ⟨fun c => ⟨(h.1 c).1, (h.1 c).2.1⟩, h.2⟩)
    (Permute.run_main (F := Bits) m ρ fun d j => Reference.entry_lt _ _ (hpre d) j)

/-- So does the kernel over the ideal floats. -/
theorem frame_ideal : Cert.quiescent_KernelIdeal := fun m ρ hpre =>
  (θ_run (Cert.KernelIdeal.defs (F := Ideal)) _ _).mono (fun _ h => ⟨fun c => ⟨(h.1 c).1, (h.1 c).2.1⟩, h.2⟩)
    (Permute.run_main (F := Ideal) m ρ fun d j => Reference.entry_lt _ _ (hpre d) j)

/-- So does the reference, whatever its arguments: it declares no semaphore. -/
theorem frame_reference : Cert.quiescent_ReferenceIdeal := fun m ρ _ =>
  (θ_run (Cert.ReferenceIdeal.defs (F := Ideal)) _ _).mono
    (fun r h => ⟨fun c => (h c).2.2, sem_eq_zero_of_no_sems (by decide) r.2⟩) (Cert.ReferenceIdeal.Value.run (F := Ideal) m ρ)

/-- The same, stated under the kernel's precondition. -/
theorem frame_reference_pre : Cert.quiescent_ReferenceIdeal_pre_p_in_range := fun m ρ _ => frame_reference m ρ trivial

/-- The reference's first result is the kernel's, from arguments that agree. -/
theorem result_eq (m : (ℓ : Loc Cert.KernelIdeal.nD Cert.KernelIdeal.τ Cert.KernelIdeal.sig) → Buf (Elt Ideal) ℓ) (hpre : Cert.Pre_KernelIdeal m)
    (c : Dev Cert.KernelIdeal.nD) : Reference.taken (F := Ideal) (m (Permute.xLoc c)) (m (Permute.pLoc c)) = Permute.G m c :=
  funext fun i => Reference.taken_eq _ _ (fun j => Reference.entry_lt _ _ (hpre c) j) i

/-- Kernel and reference, over the ideal floats and from arguments that agree, end with equal results: the first `x` with its
    columns taken at `p`'s entries, the second the constant zero. -/
theorem algebraic : Cert.algebraic_KernelIdeal_ReferenceIdeal := by
  intro m ρ m' ρ' hpre hagree
  refine ⟨fun c => Permute.G m c, fun c => Permute.Z c, ?_, ?_⟩
  · exact (θ_run (Cert.KernelIdeal.defs (F := Ideal)) _ _).mono (fun _ h c => ⟨(h.1 c).2.2.1, (h.1 c).2.2.2, (h.1 c).1, (h.1 c).2.1⟩)
      (Permute.run_main (F := Ideal) m ρ fun d j => Reference.entry_lt _ _ (hpre d) j)
  · refine (θ_run (Cert.ReferenceIdeal.defs (F := Ideal)) _ _).mono (fun r h c => ?_) (Cert.ReferenceIdeal.Value.run (F := Ideal) m' ρ')
    obtain ⟨h0, h1, h2, h3⟩ := h c
    refine ⟨h0.trans ?_, h1, h2, h3⟩
    rw [(hagree c).1, (hagree c).2]
    exact result_eq m hpre c

/-- The certificate. -/
theorem claim : Cert.Claim :=
  ⟨Cert.Kernel.Gen.facts, Cert.KernelIdeal.Gen.facts, Cert.ReferenceIdeal.Gen.facts, Cert.Pre_p_in_range.Gen.facts,
    frame_kernel, frame_ideal, frame_reference, frame_reference_pre, trivial, algebraic⟩

end Cert.Proof

end
